-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S1 : Shape := ⟨1, ![1]⟩
abbrev S1024x512 : Shape := ⟨2, ![1024, 512]⟩
abbrev S12 : Shape := ⟨1, ![12]⟩
abbrev S_ : Shape := ⟨0, ![]⟩
abbrev S2048x512 : Shape := ⟨2, ![2048, 512]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 5
  | .vmem => 15
  | .smem => 2
  | _ => 0

abbrev bufTy : (tb : Table) → Fin (tcTables nBuf tb) → BufTy
  | .hbm, ⟨0, _⟩ => ⟨S1024x4096, .fp8e5m2⟩
  | .hbm, ⟨1, _⟩ => ⟨S4096x512, .fp8e5m2⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .fp8e5m2⟩
  | .local _ .vmem, ⟨1, _⟩ => ⟨S4096x512, .fp8e5m2⟩
  | .local _ .vmem, ⟨2, _⟩ => ⟨S4096x512, .f32⟩
  | .local _ .vmem, ⟨3, _⟩ => ⟨S1024x4096, .fp8e5m2⟩
  | .local _ .vmem, ⟨4, _⟩ => ⟨S4096x512, .fp8e5m2⟩
  | .local _ .vmem, ⟨5, _⟩ => ⟨S4096x512, .fp8e5m2⟩
  | .local _ .vmem, ⟨6, _⟩ => ⟨S4096x512, .fp8e5m2⟩
  | .local _ .vmem, ⟨7, _⟩ => ⟨S4096x512, .fp8e5m2⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .smem, ⟨0, _⟩ => ⟨S1, .f32⟩
  | .local _ .smem, ⟨1, _⟩ => ⟨S1, .f32⟩
  | _, _ => ⟨S1024x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v20 : BitVec 32 := Scalar.muli v7 c1_i32_17
  let v21 : BitVec 32 := Scalar.addi c0_i32_18 v20
  v21.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_25 : BitVec 32 := 1#32
  let v28 : BitVec 32 := Scalar.muli v5 c1_i32_25
  let v29 : BitVec 32 := Scalar.addi c0_i32_26 v28
  v29.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_32 : BitVec 32 := 1#32
  let v36 : BitVec 32 := Scalar.muli v7 c1_i32_32
  let v37 : BitVec 32 := Scalar.addi c0_i32_33 v36
  v37.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_39 : BitVec 32 := 1#32
  let v44 : BitVec 32 := Scalar.muli v5 c1_i32_39
  let v45 : BitVec 32 := Scalar.addi c0_i32_40 v44
  v45.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v65 : BitVec 32 := Scalar.muli v2 c1024_i32
  let v66 : Index := Scalar.indexCast v65
  let c0_55 : Index := 0#32
  ![v66.toNat, 0]
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_66 : BitVec 32 := 1#32
  let v74 : BitVec 32 := Scalar.muli v7 c1_i32_66
  let v75 : BitVec 32 := Scalar.addi c0_i32_67 v74
  v75.toNat
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_73 : BitVec 32 := 1#32
  let v82 : BitVec 32 := Scalar.muli v7 c1_i32_73
  let v83 : BitVec 32 := Scalar.addi c0_i32_74 v82
  v83.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_88 : BitVec 32 := 1#32
  let v96 : BitVec 32 := Scalar.muli v5 c1_i32_88
  let v97 : BitVec 32 := Scalar.addi c0_i32_89 v96
  v97.toNat
def k0_dev10 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_95 : BitVec 32 := 1#32
  let v104 : BitVec 32 := Scalar.muli v5 c1_i32_95
  let v105 : BitVec 32 := Scalar.addi c0_i32_96 v104
  v105.toNat
def k0_dev11 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_116 : BitVec 32 := 1#32
  let v127 : BitVec 32 := Scalar.muli v5 c1_i32_116
  let v128 : BitVec 32 := Scalar.addi c0_i32_117 v127
  v128.toNat
def k0_dev12 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_134 : BitVec 32 := 1#32
  let v148 : BitVec 32 := Scalar.muli v7 c1_i32_134
  let v149 : BitVec 32 := Scalar.addi c0_i32_135 v148
  v149.toNat
def k0_dev13 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_192 : BitVec 32 := 1#32
  let v203 : BitVec 32 := Scalar.muli v9 c1_i32_192
  let v204 : BitVec 32 := Scalar.addi c0_i32_193 v203
  v204.toNat
def k0_dev14 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_212 : BitVec 32 := 1#32
  let v226 : BitVec 32 := Scalar.muli v9 c1_i32_212
  let v227 : BitVec 32 := Scalar.addi c0_i32_213 v226
  v227.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_223 : BitVec 32 := 1024#32
  let v240 : BitVec 32 := Scalar.muli v5 c1024_i32_223
  let v241 : Index := Scalar.indexCast v240
  let c0_224 : Index := 0#32
  ![v241.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1024_i32_231 : BitVec 32 := 1024#32
  let v249 : BitVec 32 := Scalar.muli v7 c1024_i32_231
  let v250 : Index := Scalar.indexCast v249
  let c0_232 : Index := 0#32
  ![v250.toNat, 0]
def k0_off4 (d0 : Dev nD) (c0_i32_244 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1024_i32_243 : BitVec 32 := 1024#32
  let v260 : BitVec 32 := Scalar.muli v9 c1024_i32_243
  let v261 : BitVec 32 := Scalar.addi v260 c0_i32_244
  let v262 : Index := Scalar.indexCast v261
  let c0_245 : Index := 0#32
  ![v262.toNat, 0]
abbrev stage0_0 : Fin 1 → Memref sig .tc .vmem S1024x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S1, .f32⟩
  | .local _ .vmem, ⟨3, _⟩ => ⟨S1, .f32⟩
  | .local _ .vmem, ⟨4, _⟩ => ⟨S4096x2048, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Sched.lean ====
/-
The hand-over protocol of the ring matmul, before any program text is run.

Four devices form a ring. Device `c` has a left and a right neighbour and the one opposite. Every device
* signals its two neighbours' barrier semaphores: with the unit goes the right to write the buffers the neighbour
  will write by remote copies,
* waits for its own two units, then starts twelve copies, each with its own send and receive semaphore.

This module states the cells (one barrier, twelve send, twelve receive semaphores a device), what each landing hands
over AND ITS CONTENTS as functions of the four devices' inputs, and the order in which obligations are paid.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

def left (c : Dev nD) : Dev nD := ⟨(c.val + 3) % 4, Nat.mod_lt _ (Nat.succ_pos 3)⟩
def right (c : Dev nD) : Dev nD := ⟨(c.val + 1) % 4, Nat.mod_lt _ (Nat.succ_pos 3)⟩
def opp (c : Dev nD) : Dev nD := ⟨(c.val + 2) % 4, Nat.mod_lt _ (Nat.succ_pos 3)⟩

theorem left_right (c : Dev nD) : left (right c) = c := by revert c; decide
theorem right_left (c : Dev nD) : right (left c) = c := by revert c; decide
theorem opp_opp (c : Dev nD) : opp (opp c) = c := by revert c; decide
theorem left_left (c : Dev nD) : left (left c) = opp c := by revert c; decide
theorem right_right (c : Dev nD) : right (right c) = opp c := by revert c; decide

/-- The ring as permutations, for re-indexing a family held once per device. -/
def turnR : Dev nD ≃ Dev nD := ⟨right, left, left_right, right_left⟩
def turnO : Dev nD ≃ Dev nD := ⟨opp, opp, opp_opp, opp_opp⟩

/-- The device a copy `i` of device `c` goes to. -/
def dst (c : Dev nD) (i : Fin 12) : Dev nD := match i with
  | 0 => right c | 1 => right c | 2 => left c | 3 => left c | 4 => right c | 5 => right c | 6 => left c | 7 => left c
  | 8 => left c | 9 => right c | 10 => opp c | 11 => opp c
/-- The device whose copy `i` lands on `c`. -/
def org (c : Dev nD) (i : Fin 12) : Dev nD := match i with
  | 0 => left c | 1 => left c | 2 => right c | 3 => right c | 4 => left c | 5 => left c | 6 => right c | 7 => right c
  | 8 => right c | 9 => left c | 10 => opp c | 11 => opp c
theorem dst_org : ∀ (i : Fin 12) (c : Dev nD), dst (org c i) i = c := by decide
theorem org_dst : ∀ (i : Fin 12) (c : Dev nD), org (dst c i) i = c := by decide
/-- Copy `i` sends every device's data around by this permutation. -/
def turn (i : Fin 12) : Dev nD ≃ Dev nD := ⟨fun c => dst c i, fun c => org c i, fun c => org_dst i c, fun c => dst_org i c⟩

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = dst c 0 := by revert c; decide +kernel
theorem dev4_eq (c : Dev nD) : (⟨k0_dev4 c, k0_dev4_lt c⟩ : Dev nD) = dst c 2 := by revert c; decide +kernel
theorem dev5_eq (c : Dev nD) : (⟨k0_dev5 c, k0_dev5_lt c⟩ : Dev nD) = dst c 1 := by revert c; decide +kernel
theorem dev6_eq (c : Dev nD) : (⟨k0_dev6 c, k0_dev6_lt c⟩ : Dev nD) = dst c 3 := by revert c; decide +kernel
theorem dev7_eq (c : Dev nD) : (⟨k0_dev7 c, k0_dev7_lt c⟩ : Dev nD) = dst c 4 := by revert c; decide +kernel
theorem dev8_eq (c : Dev nD) : (⟨k0_dev8 c, k0_dev8_lt c⟩ : Dev nD) = dst c 5 := by revert c; decide +kernel
theorem dev9_eq (c : Dev nD) : (⟨k0_dev9 c, k0_dev9_lt c⟩ : Dev nD) = dst c 6 := by revert c; decide +kernel
theorem dev10_eq (c : Dev nD) : (⟨k0_dev10 c, k0_dev10_lt c⟩ : Dev nD) = dst c 7 := by revert c; decide +kernel
theorem dev11_eq (c : Dev nD) : (⟨k0_dev11 c, k0_dev11_lt c⟩ : Dev nD) = dst c 8 := by revert c; decide +kernel
theorem dev12_eq (c : Dev nD) : (⟨k0_dev12 c, k0_dev12_lt c⟩ : Dev nD) = dst c 9 := by revert c; decide +kernel
theorem dev13_eq (c : Dev nD) : (⟨k0_dev13 c, k0_dev13_lt c⟩ : Dev nD) = dst c 10 := by revert c; decide +kernel
theorem dev14_eq (c : Dev nD) : (⟨k0_dev14 c, k0_dev14_lt c⟩ : Dev nD) = dst c 11 := by revert c; decide +kernel

/-! ## Cells -/

abbrev barS : Sem sig := (SemArray.scalar (sig.barrier 0 rfl) : Sems sig S_).sem
abbrev barCell (c : Dev nD) : GSem nD τ sig := ((c : Thread nD τ), .reg barS)
/-- The 24 copy semaphores: `k < 12` the send semaphore of copy `k`, `12 + i` the receive semaphore of copy `i`. -/
def xs (k : Fin 24) : DmaSem sig := ⟨k.val + 5, by have := k.isLt; show k.val + 5 < 29; omega⟩
abbrev xcell (c : Dev nD) (k : Fin 24) : GSem nD τ sig := ((c : Thread nD τ), .dma (xs k))
abbrev snd (i : Fin 12) : Fin 24 := ⟨i.val, by omega⟩
abbrev rcv (i : Fin 12) : Fin 24 := ⟨12 + i.val, by omega⟩

/-! ## Buffers -/

/-- Elements `S` of device `c`'s buffer `b`, at share `q`, holding `f` there. -/
abbrev pt (c : Dev nD) (b : Ref sig .tc) (S : Finset b.ty.Idx) (q : PosShare TreeShare) (f : b.ty.Contents (Elt F)) : sProp 𝕄 :=
  ((c : Thread nD τ).loc b) ↦[S]{q} f
/-- The same at contents nobody knows, in full. -/
abbrev ptE (c : Dev nD) (b : Ref sig .tc) (S : Finset b.ty.Idx) : sProp 𝕄 := iprop(∃ f : b.ty.Contents (Elt F), pt c b S fullShare f)

abbrev bX : Ref sig .tc := cc0_stg0_0
abbrev bW : Ref sig .tc := cc0_stg1_0
abbrev bSx : Ref sig .tc := cc0_stg2_0
abbrev bSw : Ref sig .tc := cc0_stg3_0
abbrev bOut : Ref sig .tc := cc0_stg4_0
abbrev x8 : Ref sig .tc := cc0_scratch0
abbrev w8 : Ref sig .tc := cc0_scratch1
abbrev wl : Ref sig .tc := cc0_scratch2
abbrev wr : Ref sig .tc := cc0_scratch3
abbrev wo : Ref sig .tc := cc0_scratch4
abbrev bl : Ref sig .tc := cc0_scratch5
abbrev br : Ref sig .tc := cc0_scratch6
abbrev bo : Ref sig .tc := cc0_scratch7
abbrev rbl : Ref sig .tc := cc0_scratch8
abbrev rbr : Ref sig .tc := cc0_scratch9
abbrev rbo : Ref sig .tc := cc0_scratch10
abbrev acc : Ref sig .tc := cc0_scratch11

/-- Rows `lo ≤ · < hi` of the 4096 × 512 buffers, -/
def R4 (lo hi : ℕ) : Finset S4096x512.Idx := Finset.univ.filter fun i => lo ≤ (i 0).val ∧ (i 0).val < hi
/-- of the 1024 × 512 buffers. -/
def R1 (lo hi : ℕ) : Finset S1024x512.Idx := Finset.univ.filter fun i => lo ≤ (i 0).val ∧ (i 0).val < hi

theorem mem_R4 {lo hi : ℕ} {i : S4096x512.Idx} : i ∈ R4 lo hi ↔ lo ≤ (i 0).val ∧ (i 0).val < hi := by simp [R4]
theorem mem_R1 {lo hi : ℕ} {i : S1024x512.Idx} : i ∈ R1 lo hi ↔ lo ≤ (i 0).val ∧ (i 0).val < hi := by simp [R1]
theorem R4_all : R4 0 4096 = Finset.univ := by
  ext i; simp only [mem_R4, Finset.mem_univ, iff_true]; exact ⟨Nat.zero_le _, (i 0).isLt⟩
theorem R1_all : R1 0 1024 = Finset.univ := by
  ext i; simp only [mem_R1, Finset.mem_univ, iff_true]; exact ⟨Nat.zero_le _, (i 0).isLt⟩
theorem R4_union (a b d : ℕ) (h : a ≤ b) (h' : b ≤ d) : R4 a d = R4 a b ∪ R4 b d := by
  ext i; simp only [mem_R4, Finset.mem_union]; omega
theorem R1_union (a b d : ℕ) (h : a ≤ b) (h' : b ≤ d) : R1 a d = R1 a b ∪ R1 b d := by
  ext i; simp only [mem_R1, Finset.mem_union]; omega
theorem R4_disj (a b d : ℕ) : Disjoint (R4 a b) (R4 b d) := by
  rw [Finset.disjoint_left]; intro i; simp only [mem_R4]; omega
theorem R1_disj (a b d : ℕ) : Disjoint (R1 a b) (R1 b d) := by
  rw [Finset.disjoint_left]; intro i; simp only [mem_R1]; omega
/-- A block of rows, all columns, as a set of rows. -/
theorem rows4 (o n : ℕ) (inb : ∀ a, (![o, 0] : Fin 2 → ℕ) a + (![n, 512] : Fin 2 → ℕ) a ≤ S4096x512.size a) :
    (Rect.unit (s := S4096x512) ![o, 0] ![n, 512] inb).set = R4 o (o + n) := by
  ext i; rw [Rect.mem_set_unit, mem_R4]
  constructor
  · intro h; exact h 0
  · intro h a
    match a with
    | ⟨0, _⟩ => exact h
    | ⟨1, _⟩ => exact ⟨Nat.zero_le _, by have : (i 1).val < 512 := (i 1).isLt; show (i 1).val < 0 + 512; omega⟩
theorem rows1 (o n : ℕ) (inb : ∀ a, (![o, 0] : Fin 2 → ℕ) a + (![n, 512] : Fin 2 → ℕ) a ≤ S1024x512.size a) :
    (Rect.unit (s := S1024x512) ![o, 0] ![n, 512] inb).set = R1 o (o + n) := by
  ext i; rw [Rect.mem_set_unit, mem_R1]
  constructor
  · intro h; exact h 0
  · intro h a
    match a with
    | ⟨0, _⟩ => exact h
    | ⟨1, _⟩ => exact ⟨Nat.zero_le _, by have : (i 1).val < 512 := (i 1).isLt; show (i 1).val < 0 + 512; omega⟩

/-! ## Contents, as functions of the inputs the four devices' stagings hold -/

variable (m : (ℓ : Loc nD τ sig) → Buf (Elt F) ℓ)

/-- Device `c`'s four inputs as its staging buffers hold them. -/
def xin (c : Dev nD) : bX.ty.Contents (Elt F) := (win0_0.blk (0 : Fin 1)).view.read (Elt F) (m ((c : Thread nD τ).loc main_arg0))
def win (c : Dev nD) : bW.ty.Contents (Elt F) := (win0_1.blk (0 : Fin 1)).view.read (Elt F) (m ((c : Thread nD τ).loc main_arg1))
def sxin (c : Dev nD) : bSx.ty.Contents (Elt F) := (win0_2.blk (0 : Fin 1)).view.read (Elt F) (m ((c : Thread nD τ).loc main_arg2))
def swin (c : Dev nD) : bSw.ty.Contents (Elt F) := (win0_3.blk (0 : Fin 1)).view.read (Elt F) (m ((c : Thread nD τ).loc main_arg3))

/-- The rows of `x` and the columns of `w` device `c` keeps in its scratch buffers; its scales, their product. -/
def X (c : Dev nD) : Vec F S1024x4096 .fp8e5m2 := k0_pay3 (k0_pay2 (xin m c))
def W (c : Dev nD) : Vec F S4096x512 .fp8e5m2 := k0_pay1 (win m c)
abbrev rOne : Rect S1 := Rect.unit (s := S1) ![0] S1.size inb_S1_S1_0
def sx (c : Dev nD) : Elt F .f32 :=
  (Memref.whole bSx).view.readAt (Elt F) rOne.toLoadRect (sxin m c) (Shape.Idx.first (numel1_S1.symm ▸ Nat.one_pos))
def sw (c : Dev nD) : Elt F .f32 :=
  (Memref.whole bSw).view.readAt (Elt F) rOne.toLoadRect (swin m c) (Shape.Idx.first (numel1_S1.symm ▸ Nat.one_pos))
def sc (c : Dev nD) : F .f32 := k0_pay4 (sx m c) (sw m c)

/-- Loads of device `c`'s rows of `x`: columns `o..o+1024`, all rows or one half of them; of `w`: one quarter of its rows. -/
abbrev ldX (r : Rect S1024x4096) (f : Vec F S1024x4096 .fp8e5m2) := (Memref.whole x8 : Memref sig .tc .vmem S1024x4096 .fp8e5m2).view.readAt (Elt F) r.toLoadRect f
abbrev ldWo (r : Rect S4096x512) (f : Vec F S4096x512 .fp8e5m2) := (Memref.whole wo : Memref sig .tc .vmem S4096x512 .fp8e5m2).view.readAt (Elt F) r.toLoadRect f
abbrev ldAcc (r : Rect S1024x512) (f : Vec F S1024x512 .f32) := (Memref.whole acc : Memref sig .tc .vmem S1024x512 .f32).view.readAt (Elt F) r.toLoadRect f
abbrev rX0 : Rect S1024x4096 := Rect.unit (s := S1024x4096) ![0, 0] S1024x1024.size inb_S1024x4096_S1024x1024_0_0
abbrev rX2 : Rect S1024x4096 := Rect.unit (s := S1024x4096) ![0, 2048] S1024x1024.size inb_S1024x4096_S1024x1024_0_2048
abbrev rX1t : Rect S1024x4096 := Rect.unit (s := S1024x4096) ![0, 1024] S512x1024.size inb_S1024x4096_S512x1024_0_1024
abbrev rX3t : Rect S1024x4096 := Rect.unit (s := S1024x4096) ![0, 3072] S512x1024.size inb_S1024x4096_S512x1024_0_3072
abbrev rX1b : Rect S1024x4096 := Rect.unit (s := S1024x4096) ![512, 1024] S512x1024.size inb_S1024x4096_S512x1024_512_1024
abbrev rX3b : Rect S1024x4096 := Rect.unit (s := S1024x4096) ![512, 3072] S512x1024.size inb_S1024x4096_S512x1024_512_3072
abbrev rQ0 : Rect S4096x512 := Rect.unit (s := S4096x512) ![0, 0] S1024x512.size inb_S4096x512_S1024x512_0_0
abbrev rQ1 : Rect S4096x512 := Rect.unit (s := S4096x512) ![1024, 0] S1024x512.size inb_S4096x512_S1024x512_1024_0
abbrev rQ2 : Rect S4096x512 := Rect.unit (s := S4096x512) ![2048, 0] S1024x512.size inb_S4096x512_S1024x512_2048_0
abbrev rQ3 : Rect S4096x512 := Rect.unit (s := S4096x512) ![3072, 0] S1024x512.size inb_S4096x512_S1024x512_3072_0
abbrev rT : Rect S1024x512 := Rect.unit (s := S1024x512) ![0, 0] S512x512.size inb_S1024x512_S512x512_0_0
abbrev rB : Rect S1024x512 := Rect.unit (s := S1024x512) ![512, 0] S512x512.size inb_S1024x512_S512x512_512_0

/-- The block device `c` computes for its left neighbour (its rows of `x`, the neighbour's columns of `w`), for its right
    neighbour, and for the device opposite in two halves of rows, over half of the contraction first (`accF`). -/
def blF (c : Dev nD) : Vec F S1024x512 .bf16 := k0_pay6 (sc m c) (X m c) (W m (left c))
def brF (c : Dev nD) : Vec F S1024x512 .bf16 := k0_pay7 (sc m c) (X m c) (W m (right c))
def accF (c : Dev nD) : Vec F S1024x512 .f32 := k0_pay8 (ldX rX0 (X m c)) (ldWo rQ0 (W m (opp c))) (ldX rX2 (X m c)) (ldWo rQ2 (W m (opp c)))
def boLo (c : Dev nD) : Vec F S512x512 .bf16 :=
  k0_pay9 (sc m c) (ldAcc rT (accF m c)) (ldX rX1t (X m c)) (ldWo rQ1 (W m (opp c))) (ldX rX3t (X m c)) (ldWo rQ3 (W m (opp c)))
def boHi (c : Dev nD) : Vec F S512x512 .bf16 :=
  k0_pay11 (sc m c) (k0_pay10 (ldAcc rB (accF m c)) (ldX rX1b (X m c)) (ldWo rQ1 (W m (opp c))) (ldX rX3b (X m c)) (ldWo rQ3 (W m (opp c))))
abbrev stBo (r : Rect S1024x512) (f : Vec F S1024x512 .bf16) (w : Vec F r.shape .bf16) : Vec F S1024x512 .bf16 :=
  ((Memref.whole bo : Memref sig .tc .vmem S1024x512 .bf16).access r : View sig .tc _ _ _).write (Elt F) f w Finset.univ
/-- Both halves together (the base they are written over does not matter: they cover it). -/
def boF (c : Dev nD) : Vec F S1024x512 .bf16 := stBo rB (stBo rT (brF m c) (boLo m c)) (boHi m c)

/-! ## The schedule -/

/-- The credit of copy `i`. -/
def N (i : ℕ) : ℕ :=
  if i < 4 then ((Memref.whole wl).slice (Rect.unit (s := S4096x512) ![0, 0] S2048x512.size inb_S4096x512_S2048x512_0_0) (fun _ => rfl)).view.dmaCredit
  else if i < 8 then ((Memref.whole wo).slice rQ0 (fun _ => rfl)).view.dmaCredit
  else if i < 10 then (Memref.whole rbr).view.dmaCredit
  else ((Memref.whole rbo).slice rT (fun _ => rfl)).view.dmaCredit
theorem N_pos (i : ℕ) : 0 < N i := by
  unfold N; (repeat' split) <;> exact View.dmaCredit_pos _ (by decide)
/-- The credit semaphore number `n` (of the machine's numbering) takes. -/
def amt (n : ℕ) : ℕ := N ((n - 5) % 12)

abbrev sL : PosShare TreeShare := fullShare.left
abbrev sR : PosShare TreeShare := fullShare.right
abbrev sLL : PosShare TreeShare := fullShare.left.left
abbrev sLR : PosShare TreeShare := fullShare.left.right

/-- What a barrier unit hands device `c`: from its right neighbour (`true`) the buffers `c`'s copies 0, 1, 4, 5, 9 land in,
    from its left (`false`) those of its copies 2, 3, 6, 7, 8. -/
def barPay (c : Dev nD) : Bool → sProp 𝕄
  | true => iprop(ptE (right c) wl Finset.univ ∗ ptE (right c) wo (R4 0 2048) ∗ ptE (right c) rbl Finset.univ)
  | false => iprop(ptE (left c) wr Finset.univ ∗ ptE (left c) wo (R4 2048 4096) ∗ ptE (left c) rbr Finset.univ)

/-- What the wait on `c`'s copy semaphore number `n` hands over. A send semaphore (5 to 16): the share of the source lent to
    the copy. A receive semaphore (17 to 28): the rows landed, WITH WHAT THEY HOLD; two of them carry the buffer `rbo` of the
    device two steps back, which is how the right to write it travels to the device opposite. -/
def dmaPay (c : Dev nD) (n : ℕ) : sProp 𝕄 := match n with
  | 5 => pt c w8 (R4 0 2048) sLL (W m c)
  | 6 => pt c w8 (R4 2048 4096) sLL (W m c)
  | 7 => pt c w8 (R4 2048 4096) sLR (W m c)
  | 8 => pt c w8 (R4 0 2048) sLR (W m c)
  | 9 => pt c wl (R4 0 1024) sL (W m (left c))
  | 10 => pt c wl (R4 1024 2048) sL (W m (left c))
  | 11 => pt c wr (R4 2048 3072) sL (W m (right c))
  | 12 => pt c wr (R4 3072 4096) sL (W m (right c))
  | 13 => pt c bl Finset.univ fullShare (blF m c)
  | 14 => pt c br Finset.univ fullShare (brF m c)
  | 15 => pt c bo (R1 0 512) fullShare (boF m c)
  | 16 => pt c bo (R1 512 1024) fullShare (boF m c)
  | 17 => iprop(pt c wl (R4 0 2048) fullShare (W m (left c)) ∗ ptE (left c) rbo Finset.univ)
  | 18 => pt c wl (R4 2048 4096) fullShare (W m (left c))
  | 19 => pt c wr (R4 2048 4096) fullShare (W m (right c))
  | 20 => pt c wr (R4 0 2048) fullShare (W m (right c))
  | 21 => iprop(pt c wo (R4 0 1024) fullShare (W m (opp c)) ∗ ptE (opp c) rbo Finset.univ)
  | 22 => pt c wo (R4 1024 2048) fullShare (W m (opp c))
  | 23 => pt c wo (R4 2048 3072) fullShare (W m (opp c))
  | 24 => pt c wo (R4 3072 4096) fullShare (W m (opp c))
  | 25 => pt c rbr Finset.univ fullShare (blF m (right c))
  | 26 => pt c rbl Finset.univ fullShare (brF m (left c))
  | 27 => pt c rbo (R1 0 512) fullShare (boF m (opp c))
  | 28 => pt c rbo (R1 512 1024) fullShare (boF m (opp c))
  | _ => iprop(emp)

/-- One round: a barrier cell has two duties of one unit, a copy semaphore's cell one duty of its copy's credit. -/
def Rd : Rounds.Schedule (GSem nD τ sig) Bool 𝕄 where
  duties g r := if r = 0 ∧ g.1.2 = .tc then (match g.2 with | .reg _ => Finset.univ | .dma q => if 5 ≤ q.val then {false} else ∅) else ∅
  unitless _ := False
  amount g _ _ := match g.2 with | .reg _ => 1 | .dma q => amt q.val
  payload g _ d := match g.2 with | .reg _ => barPay g.1.1 d | .dma q => dmaPay m g.1.1 q.val
  amount_pos g _ _ _ := by
    dsimp only; split
    · exact Nat.one_pos
    · exact N_pos _

instance barPay_storable (c : Dev nD) (d : Bool) : BI.Storable (upEmb : UEmb _ 𝕄) (barPay c d) := by
  cases d <;> (unfold barPay; infer_instance)
instance dmaPay_storable (c : Dev nD) (n : ℕ) : BI.Storable (upEmb : UEmb _ 𝕄) (dmaPay m c n) := by
  unfold dmaPay; split <;> infer_instance
instance Rd_storable (g : GSem nD τ sig) (r : ℕ) (d : Bool) : BI.Storable (upEmb : UEmb _ 𝕄) ((Rd m).payload g r d) := by
  show BI.Storable upEmb (match g.2 with | .reg _ => barPay g.1.1 d | .dma q => dmaPay m g.1.1 q.val)
  split <;> infer_instance

theorem duties_bar (c : Dev nD) : (Rd m).duties (barCell c) 0 = Finset.univ := by dsimp only [Rd]; exact if_pos ⟨rfl, rfl⟩
theorem duties_x (c : Dev nD) (k : Fin 24) : (Rd m).duties (xcell c k) 0 = {false} := by
  dsimp only [Rd]; rw [if_pos ⟨rfl, rfl⟩, if_pos]; show 5 ≤ k.val + 5; omega
theorem duties_later (g : GSem nD τ sig) : ∀ r, 1 ≤ r → (Rd m).duties g r = ∅ :=
  fun r hr => by dsimp only [Rd]; exact if_neg fun h => by omega
theorem amount_x (c : Dev nD) (k : Fin 24) (d : Bool) : (Rd m).amount (xcell c k) 0 d = N (k.val % 12) := by
  show N ((k.val + 5 - 5) % 12) = _; rw [Nat.add_sub_cancel]
theorem amount_snd (c : Dev nD) (i : Fin 12) (d : Bool) : (Rd m).amount (xcell c (snd i)) 0 d = N i.val := by
  rw [amount_x]; congr 1; exact Nat.mod_eq_of_lt i.isLt
theorem amount_rcv (c : Dev nD) (i : Fin 12) (d : Bool) : (Rd m).amount (xcell c (rcv i)) 0 d = N i.val := by
  rw [amount_x]; congr 1; show (12 + i.val) % 12 = i.val; omega
theorem expect_bar (c : Dev nD) : (Rd m).expect (barCell c) 0 = 2 := by
  unfold Schedule.expect Schedule.amountOf
  rw [duties_bar]; rfl
theorem expect_x (c : Dev nD) (k : Fin 24) : (Rd m).expect (xcell c k) 0 = N (k.val % 12) := by
  unfold Schedule.expect Schedule.amountOf; rw [duties_x, Finset.sum_singleton, amount_x]
/-- What a wait on each cell yields. -/
theorem rest_x (c : Dev nD) (k : Fin 24) :
    bigSep ((Rd m).duties (xcell c k) 0 \ ∅) (fun d => (Rd m).payload (xcell c k) 0 d) = dmaPay m c (k.val + 5) := by
  rw [Finset.sdiff_empty, duties_x, bigSep_singleton]; rfl
theorem rest_bar (c : Dev nD) :
    bigSep ((Rd m).duties (barCell c) 0 \ ∅) (fun d => (Rd m).payload (barCell c) 0 d) = iprop(barPay c true ∗ barPay c false) := by
  rw [Finset.sdiff_empty, duties_bar, bigSep_univ_eq_bigSepL [true, false] (by decide) (by decide), bigSepL_cons_cons, bigSepL_singleton]
  rfl

/-! ## Obligations and levels -/

/-- What device `c` owes for the copies of the list still to start, the head the next. -/
def owedL (c : Dev nD) : List (Fin 12) → CellTallies nD τ sig Unit
  | [] => 0
  | i :: l => owedL c l + tallyAt (xcell (dst c i) (rcv i)) () (N i.val)
/-- The copies in the order they start. -/
abbrev order : List (Fin 12) := [0, 2, 1, 3, 4, 5, 6, 7, 8, 9, 10, 11]
def O₁ (c : Dev nD) : CellTallies nD τ sig Unit := owedL c order + tallyAt (barCell (right c)) () 1
def O₀ (c : Dev nD) : CellTallies nD τ sig Unit := O₁ c + tallyAt (barCell (left c)) () 1

def L (g : GSem nD τ sig) : Finset Unit := if g.1.2 = .tc then {()} else ∅
/-- Barrier cells at 1, the receive cell of copy `i` at `i + 2`, everything else at 0. -/
def lv (g : GSem nD τ sig) (_ : Unit) : ℕ := match g.2 with | .reg _ => 1 | .dma q => if 17 ≤ q.val then q.val - 15 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (i : Fin 12) : lv (xcell c (rcv i)) () = i.val + 2 := by
  show (if 17 ≤ (12 + i.val) + 5 then (12 + i.val) + 5 - 15 else 0) = _
  rw [if_pos (by omega)]; omega

theorem tallyAt_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owedL_pos (c : Dev nD) : ∀ (l : List (Fin 12)) {g : GSem nD τ sig} {u : Unit}, 0 < owedL c l g u →
    ∃ i ∈ l, g = xcell (dst c i) (rcv i)
  | [], g, u, h => absurd h (Nat.lt_irrefl 0)
  | i :: l, g, u, h => by
    unfold owedL at h
    rw [Pi.add_apply, Finsupp.add_apply] at h
    rcases Nat.add_pos_iff_pos_or_pos.mp h with h | h
    · obtain ⟨j, hj, e⟩ := owedL_pos c l h; exact ⟨j, List.mem_cons_of_mem _ hj, e⟩
    · exact ⟨i, List.mem_cons_self, tallyAt_pos h⟩

theorem O₀_pos {c : Dev nD} {g : GSem nD τ sig} {u : Unit} (h : 0 < O₀ c g u) :
    (∃ i : Fin 12, g = xcell (dst c i) (rcv i)) ∨ ∃ d : Dev nD, g = barCell d := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, -, e⟩ := owedL_pos c _ h; exact .inl ⟨i, e⟩
    · exact .inr ⟨_, tallyAt_pos h⟩
  · exact .inr ⟨_, tallyAt_pos h⟩

/-- A wait on a cell of level `n` while owing the copies of `l`, all of whose cells lie above. -/
theorem mayWait_owedL (c : Dev nD) (sm : SemLoc sig) (l : List (Fin 12)) (h : ∀ i ∈ l, lv ((c : Thread nD τ), sm) () < i.val + 2) :
    (levAts L lv : sProp 𝕄) ⊢ MayWait (c : Thread nD τ) sm () (owedL c l) :=
  MayOwe.of_cut (L := L) (lev := lv) (lv ((c : Thread nD τ), sm) ()) (fun p hp => by rw [Finset.mem_singleton.mp hp, L_tc]; exact Finset.mem_singleton_self _)
    (fun g u hg => by obtain ⟨i, -, rfl⟩ := owedL_pos c l hg; exact Finset.mem_singleton_self _)
    (fun p hp => by rw [Finset.mem_singleton.mp hp])
    (fun g u hg => by obtain ⟨i, hi, rfl⟩ := owedL_pos c l hg; rw [lv_rcv]; exact h i hi)

/-- A staging semaphore may be waited on before anything else. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨d, rfl⟩ <;> exact Finset.mem_singleton_self _)
      (fun p hp => by
        rw [Finset.mem_singleton.mp hp]; show (if 17 ≤ q.val then q.val - 15 else 0) ≤ 0
        rw [if_neg (by omega)])
      (fun g u hg => by
        rcases O₀_pos hg with ⟨i, rfl⟩ | ⟨d, rfl⟩
        · rw [lv_rcv]; omega
        · exact Nat.one_pos)
  · rw [MayWait_zero]; iintro -; iempintro

/-! ## The records and the three steps of a copy -/

abbrev Cix : Type := Unit ⊕ Fin 24
abbrev csem : Cix → SemLoc sig | .inl _ => .reg barS | .inr k => .dma (xs k)
abbrev kcell (ck : Dev nD × Cix) : GSem nD τ sig := ((ck.1 : Thread nD τ), csem ck.2)

/-- Every cell's invariant, at the names `K` the launch gave it, and that every cell is at its only round. -/
def records (K : Dev nD × Cix → ℕ) : sProp 𝕄 :=
  iprop((bigSep Finset.univ fun ck : Dev nD × Cix => cellInv ER (Rd m) (K ck) (kcell ck))
    ∗ bigSep Finset.univ fun ck : Dev nD × Cix => reached ER (kcell ck) 0)
instance records_persistent (K : Dev nD × Cix → ℕ) : BI.Persistent (records m K) := by unfold records; infer_instance
/-- The records and the levels: what every step of the run reads. -/
def Ctx (K : Dev nD × Cix → ℕ) : sProp 𝕄 := iprop(records m K ∗ levAts L lv)
instance Ctx_persistent (K : Dev nD × Cix → ℕ) : BI.Persistent (Ctx m K) := by unfold Ctx; infer_instance

theorem inv_at (K : Dev nD × Cix → ℕ) (ck : Dev nD × Cix) : Ctx m K ⊢ cellInv ER (Rd m) (K ck) (kcell ck) := by
  unfold Ctx records
  iintro ⟨⟨H, -⟩, -⟩
  iapply (show (bigSep Finset.univ fun ck : Dev nD × Cix => (cellInv ER (Rd m) (K ck) (kcell ck) : sProp 𝕄)) ⊢ cellInv ER (Rd m) (K ck) (kcell ck) from
    bigSep_elim (Finset.mem_univ ck))
  iexact H
theorem reached_at (K : Dev nD × Cix → ℕ) (ck : Dev nD × Cix) : Ctx m K ⊢ reached ER (kcell ck) 0 := by
  unfold Ctx records
  iintro ⟨⟨-, H⟩, -⟩
  iapply (show (bigSep Finset.univ fun ck : Dev nD × Cix => (reached ER (kcell ck) 0 : sProp 𝕄)) ⊢ reached ER (kcell ck) 0 from
    bigSep_elim (Finset.mem_univ ck))
  iexact H
theorem lev_at (K : Dev nD × Cix → ℕ) : Ctx m K ⊢ levAts L lv := by
  unfold Ctx; iintro ⟨-, H⟩; iexact H

/-- What device `c` owes, whatever it has waited on. -/
def ow (c : Dev nD) (O : CellTallies nD τ sig Unit) : sProp 𝕄 := iprop(∃ Wt, owes (c : Thread nD τ) O Wt)
/-- The two duties copy `i` of device `c` pays. -/
def stok (c : Dev nD) (i : Fin 12) : sProp 𝕄 :=
  iprop(dutyTok ER (xcell c (snd i)) 0 false ∗ dutyTok ER (xcell (dst c i) (rcv i)) 0 false)
/-- What a wait on `c`'s copy semaphore `k` takes: the credit and the position. -/
def wtok (c : Dev nD) (k : Fin 24) : sProp 𝕄 := iprop(cred (tallyAt (xcell c k) () (N (k.val % 12))) ∗ atPos ER (xcell c k) 0 ∅ 0)

abbrev 𝒱₀ : Variants := Variants.none
/-- The postcondition reading of a stretch of device `c`'s program. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- STARTING COPY `i`: a share of the source is lent, the destination's rows on the target go with it (and what else the
    receive semaphore is to hand over), the obligation at the head of the list is discharged. -/
theorem wp_copy (K : Dev nD × Cix → ℕ) (c n : Dev nD) (i : Fin 12) (l : List (Fin 12)) (hn : n = dst c i)
    {sp sp' : Space} {s : Shape} {e : EltTy}
    {src : Memref sig .tc sp s e} {dm : Memref sig .tc sp' s e} {sS sem : DmaSem sig} (hS : sS = xs (snd i)) (hR : sem = xs (rcv i))
    {hsc : (dm : Memref sig (Dev.tc n : Thread nD τ).2.kind sp' s e).view.ref.isScScratch = false}
    {hsrc : src.view.WordExact} {hdst : dm.view.WordExact}
    {hsem : DmaTarget.Typed sp (.dma sem) (.remote (Dev.tc n : Thread nD τ) dm (.dma sS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dm.view.loc (dst c i : Thread nD τ))) (G : sProp 𝕄)
    (hN : dm.view.dmaCredit = N i.val)
    (hp₁ : (src.view.loc (c : Thread nD τ) ↦[src.view.set]{q} fs) ⊢ dmaPay m c (i.val + 5))
    (hp₂ : iprop((dm.view.loc (dst c i : Thread nD τ) ↦[dm.view.set]{fullShare} (dm.view.write (Elt F) fd (src.view.read (Elt F) fs) Finset.univ)) ∗ G)
      ⊢ dmaPay m (dst c i) (12 + i.val + 5)) :
    iprop(Ctx m K ∗ (src.view.loc (c : Thread nD τ) ↦[src.view.set]{q} fs)
        ∗ ((dm.view.loc (dst c i : Thread nD τ) ↦[dm.view.set]{fullShare} fd) ∗ G)
        ∗ ow c (owedL c (i :: l)) ∗ stok c i)
      ⊢ iprop(((cred (tallyAt (xcell c (snd i)) () (N i.val)) ∗ ow c (owedL c l)) -∗ wpc c (k ⟨⟩) Q)
          -∗ wpc c (.op (.enqueueDma src (.remote (Dev.tc n : Thread nD τ) dm (.dma sS) hsc) (.dma sem) hsrc hdst hsem) k) Q) := by
  subst hn hS hR
  unfold ow stok
  iintro ⟨#HC, Hs, Hd, ⟨%Wt, HO⟩, HtS, HtR⟩ Hk
  ihave #HI1 := (inv_at m K (c, .inr (snd i))) $$ HC
  ihave #HI2 := (inv_at m K (dst c i, .inr (rcv i))) $$ HC
  ihave #HR1 := (reached_at m K (c, .inr (snd i))) $$ HC
  ihave #HR2 := (reached_at m K (dst c i, .inr (rcv i))) $$ HC
  iapply (Rounds.wp_send_pointsTo_with 𝒱₀ ER (Rd m) (c : Thread nD τ) none (κ₁ := K (c, .inr (snd i))) (κ₂ := K (dst c i, .inr (rcv i)))
    (r₁ := 0) (r₂ := 0) (d₁ := false) (d₂ := false) (fd := fd) (F := G)
    (by rw [duties_x]; exact Finset.mem_singleton_self _) (by rw [duties_x]; exact Finset.mem_singleton_self _)
    () () (N i.val) (sem := .dma (xs (rcv i))) ((View.amount_dma _ _).trans hN) (amount_snd m c i false) (amount_rcv m (dst c i) i false) (owedL c l) rfl (W := Wt)
    hp₁ hp₂) $$ [Hs Hd HO HtS HtR]
  · isplitr; · iexact HI1
    isplitr; · iexact HI2
    isplitl [Hs]; · iexact Hs
    isplitl [Hd]; · iexact Hd
    isplitl [HO]; · iexact HO
    isplitl [HtS]; · iexact HtS
    isplitr; · iexact HR1
    isplitl [HtR]; · iexact HtR
    iexact HR2
  iintro ⟨Hc, HO⟩
  iapply Hk
  isplitl [Hc]; · iexact Hc
  iexists Wt; iexact HO

/-- WAITING on copy semaphore `k` of its own: what it hands over, and the semaphore at zero again, for good. -/
theorem wp_await (K : Dev nD × Cix → ℕ) (c : Dev nD) (k : Fin 24) (l : List (Fin 12))
    (hl : ∀ i ∈ l, lv (xcell c k) () < i.val + 2)
    {sp sp' : Space} {s : Shape} {e : EltTy} {src : Memref sig .tc sp' s e} {dm : Memref sig .tc sp s e} {sem : DmaSem sig} (hS : sem = xs k)
    {hsrc : src.view.WordExact} {hdst : dm.view.WordExact}
    {α : Type} {Q : α → sProp 𝕄} {kk : PUnit → Prog (TpuEff nD τ sig (Elt F) Λ₀ .tc) α}
    (hN : dm.view.dmaCredit = N (k.val % 12)) :
    iprop(Ctx m K ∗ wtok c k ∗ ow c (owedL c l))
      ⊢ iprop(((semVal (xcell c k) 0 ∗ dmaPay m c (k.val + 5) ∗ ow c (owedL c l)) -∗ wpc c (kk ⟨⟩) Q)
          -∗ wpc c (.op (.waitDma2 sem src dm hsrc hdst) kk) Q) := by
  subst hS
  unfold ow wtok
  iintro ⟨#HC, ⟨Hc, Hat⟩, ⟨%Wt, HO⟩⟩ Hk
  ihave #HI := (inv_at m K (c, .inr k)) $$ HC
  ihave #HL := (lev_at m K) $$ HC
  iapply (Rounds.wp_wait_rest_token 𝒱₀ ER (Rd m) (c : Thread nD τ) none (κ := K (c, .inr k))
      (wpE_waitDma2_eq 𝒱₀ (c : Thread nD τ) none Set.univ) (Set.mem_univ _) () (O := owedL c l) (W := Wt) (R := 0) (m := 0) (T := ∅)
      (by rw [Nat.zero_add, expect_x]; exact hN)) $$ [Hc HO Hat]
  · isplitr; · iexact HI
    isplitl [Hc]; · rw [hN]; iexact Hc
    isplitl [HO]; · iexact HO
    isplitr; · iapply (mayWait_owedL c _ l hl); iexact HL
    iexact Hat
  iintro ⟨HO, Hat, -, Hp⟩
  ihave Hp := (Entails.of_eq (rest_x m c k)) $$ Hp
  imod (Rounds.cell_close ER (Rd m) (Set.mem_univ (K (c, .inr k))) (fun h => h) (R := 0 + 1) (duties_later m (xcell c k))) $$ [Hat] with Hz
  · isplitr; · iexact HI
    iexact Hat
  iapply Hk
  isplitl [Hz]; · iexact Hz
  isplitl [Hp]; · iexact Hp
  iexists _; iexact HO

end Cert.KernelIdeal.RingMM

end
-- ==== Proof.Tools.lean ====
/-
Cutting and joining the buffers of the protocol: rows, shares, and what a copy leaves in the rows it lands on.
-/
module

public import proofs.«01_k».proof.Proof.Sched

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Shares and rows -/

/-- A points-to cut along its share: left half, right half. -/
theorem pt_halves (c : Dev nD) (b : Ref sig .tc) (S : Finset b.ty.Idx) (q : PosShare TreeShare) (f : b.ty.Contents (Elt F)) :
    (pt c b S q f : sProp 𝕄) ⊣⊢ iprop(pt c b S q.left f ∗ pt c b S q.right f) :=
  pointsTo_share (PosShare.mem_left_op_right q)
theorem pt_cut (c : Dev nD) (b : Ref sig .tc) (S T U : Finset b.ty.Idx) (q : PosShare TreeShare) (f : b.ty.Contents (Elt F))
    (h : S = T ∪ U) (hd : Disjoint T U) : (pt c b S q f : sProp 𝕄) ⊣⊢ iprop(pt c b T q f ∗ pt c b U q f) := by
  subst h; exact pointsTo_union hd

theorem R4_cut {a d : ℕ} (b : ℕ) (h : a ≤ b) (h' : b ≤ d) : R4 a d = R4 a b ∪ R4 b d := R4_union a b d h h'
theorem R4_halves : (Finset.univ : Finset S4096x512.Idx) = R4 0 2048 ∪ R4 2048 4096 := by
  rw [← R4_all]; exact R4_union 0 2048 4096 (by decide) (by decide)
theorem R1_halves : (Finset.univ : Finset S1024x512.Idx) = R1 0 512 ∪ R1 512 1024 := by
  rw [← R1_all]; exact R1_union 0 512 1024 (by decide) (by decide)

/-- Contents nobody knows, cut by rows. -/
theorem ptE_cut (c : Dev nD) (b : Ref sig .tc) (S T U : Finset b.ty.Idx) (h : S = T ∪ U) (hd : Disjoint T U) :
    (ptE (F := F) c b S : sProp 𝕄) ⊢ iprop(ptE c b T ∗ ptE c b U) := by
  iintro ⟨%f, H⟩
  ihave H := (pt_cut c b S T U fullShare f h hd).1 $$ H
  icases H with ⟨H1, H2⟩
  isplitl [H1]
  · iexists f; iexact H1
  · iexists f; iexact H2

/-! ## Views' elements -/

theorem set_slice4 (b : Ref sig .tc) (r : Rect b.ty.shape) (h : ∀ a, r.stride a = 1) :
    ((Memref.whole b).slice r h).view.set = r.set := View.set_slice_whole b r

theorem ld_sub (b : Ref sig .tc) (r : Rect b.ty.shape) (S : Finset b.ty.Idx) (h : r.set = S) :
    (Memref.whole b).view.setOn r.toLoadRect.set ⊆ S := by
  subst h; intro i hi
  obtain ⟨j, hj, rfl⟩ := Finset.mem_map.mp hi
  exact hj
theorem st_sub (b : Ref sig .tc) (r : Rect b.ty.shape) (S : Finset b.ty.Idx) (h : r.set = S) :
    ((Memref.whole b).access r).setOn Finset.univ ⊆ S := by
  rw [View.setOn_univ]; exact (subset_of_eq ((View.set_slice_whole b r).trans h))

/-! ## What a copy leaves -/

/-- Written through a view, on the view's elements: whatever function reads there as the payload. -/
theorem write_on {sp : Space} {s : Shape} {e : EltTy} (v : View sig .tc sp s e) (f g : v.ty.Contents (Elt F)) (w : s.Idx → Elt F e)
    (h : ∀ x, v.read (Elt F) g x = w x) : ∀ i ∈ v.set, v.write (Elt F) f w Finset.univ i = g i := by
  intro i hi
  obtain ⟨x, -, rfl⟩ := Finset.mem_map.mp hi
  rw [View.write_emb_of_mem f w (Finset.mem_univ x), ← h x, View.read_apply, cast_cast, cast_eq]

/-- The same write over two bases agrees where the bases agree, and on the view's elements. -/
theorem write_base {sp : Space} {s : Shape} {e : EltTy} (v : View sig .tc sp s e) (f g : v.ty.Contents (Elt F)) (w : s.Idx → Elt F e)
    (i : v.ty.Idx) (h : i ∈ v.set ∨ f i = g i) : v.write (Elt F) f w Finset.univ i = v.write (Elt F) g w Finset.univ i := by
  by_cases hi : i ∈ v.set
  · obtain ⟨x, -, rfl⟩ := Finset.mem_map.mp hi
    rw [View.write_emb_of_mem f w (Finset.mem_univ x), View.write_emb_of_mem g w (Finset.mem_univ x)]
  · rw [View.write_of_not_mem f w _ (by rw [View.setOn_univ]; exact hi), View.write_of_not_mem g w _ (by rw [View.setOn_univ]; exact hi)]
    exact h.resolve_left hi

/-- Off the view's elements a write changes nothing. -/
theorem write_off {sp : Space} {s : Shape} {e : EltTy} (v : View sig .tc sp s e) (f : v.ty.Contents (Elt F)) (w : s.Idx → Elt F e)
    (i : v.ty.Idx) (h : i ∉ v.set) : v.write (Elt F) f w Finset.univ i = f i :=
  View.write_of_not_mem f w _ (by rw [View.setOn_univ]; exact h)

theorem hz : (![0, 0] : Fin 2 → Nat) = fun _ => 0 := funext fun a => by
  match a with
  | ⟨0, _⟩ => rfl
  | ⟨1, _⟩ => rfl

theorem bar_amount (c : Dev nD) (m : (ℓ : Loc nD τ sig) → Buf (Elt F) ℓ) (d : Bool) : (Rd m).amount (barCell c) 0 d = 1 := rfl

/-! ## The steps, each with the contents it leaves -/

variable (m : (ℓ : Loc nD τ sig) → Buf (Elt F) ℓ)

theorem ow_intro (c : Dev nD) (O : CellTallies nD τ sig Unit) (Wt : Waits sig Unit) :
    (owes (c : Thread nD τ) O Wt : sProp 𝕄) ⊢ ow c O := by
  unfold ow; iintro H; iexists Wt; iexact H

/-- A load of what the share held covers. -/
theorem ld (c : Dev nD) {cs : CoreSpace} {s : Shape} {e : EltTy} (M : Memref sig .tc cs s e) {r : LoadRect s} {hl : M.view.LoadsAt r}
    (S : Finset M.view.ref.ty.Idx) (q : PosShare TreeShare)
    (f : M.view.ref.ty.Contents (Elt F)) (w : r.shape.Idx → Elt F e) (hS : M.view.setOn r.set ⊆ S)
    (hw : M.view.readAt (Elt F) r f = w)
    {α : Type} {Q : α → sProp 𝕄} {k : (r.shape.Idx → Elt F e) → Prog (TpuEff nD τ sig (Elt F) Λ₀ .tc) α} :
    (pt c M.view.ref S q f : sProp 𝕄)
      ⊢ iprop((pt c M.view.ref S q f -∗ wpc c (k w) Q) -∗ wpc c (.op (.load M r hl) k) Q) := by
  subst hw
  exact wp_load 𝒱₀ (c : Thread nD τ) none Set.univ (m := M) hS

/-- A store into a buffer held in full, at the contents it leaves. -/
theorem st (c : Dev nD) {cs : CoreSpace} {s : Shape} {e : EltTy} (M : Memref sig .tc cs s e) {r : Rect s} {w : r.shape.Idx → Elt F e}
    {hx : (M.access r).Stores Finset.univ} {hm} (S : Finset M.view.ref.ty.Idx)
    (f g : M.view.ref.ty.Contents (Elt F)) (hS : (M.access r).setOn Finset.univ ⊆ S)
    (hg : ∀ i ∈ S, (M.access r).write (Elt F) f w Finset.univ i = g i)
    {α : Type} {Q : α → sProp 𝕄} {k : PUnit → Prog (TpuEff nD τ sig (Elt F) Λ₀ .tc) α} :
    (pt c M.view.ref S fullShare f : sProp 𝕄)
      ⊢ iprop((pt c M.view.ref S fullShare g -∗ wpc c (k ⟨⟩) Q) -∗ wpc c (.op (.store M r w Finset.univ hx hm) k) Q) := by
  rw [show (pt c M.view.ref S fullShare g : sProp 𝕄) = (pt c M.view.ref S fullShare ((M.access r).write (Elt F) f w Finset.univ)) from
    (pointsTo_congr hg).symm]
  exact wp_store 𝒱₀ (c : Thread nD τ) none Set.univ (m := M) (r := r) (Mk := Finset.univ) hS

/-- Starting copy `i` from rows `A` of a buffer into rows `B` of a peer's, whatever these hold: landed, they hold `g`. -/
theorem cp (K : Dev nD × Cix → ℕ) (c n : Dev nD) (i : Fin 12) (l : List (Fin 12)) (hn : n = dst c i)
    {sp sp' : Space} {s : Shape} {e : EltTy}
    {src : Memref sig .tc sp s e} {dm : Memref sig .tc sp' s e} {sS sem : DmaSem sig} (hS : sS = xs (snd i)) (hR : sem = xs (rcv i))
    {hsc : (dm : Memref sig (Dev.tc n : Thread nD τ).2.kind sp' s e).view.ref.isScScratch = false}
    {hsrc : src.view.WordExact} {hdst : dm.view.WordExact}
    {hsem : DmaTarget.Typed sp (.dma sem) (.remote (Dev.tc n : Thread nD τ) dm (.dma sS) hsc)}
    {α : Type} {Q : α → sProp 𝕄} {k : PUnit → Prog (TpuEff nD τ sig (Elt F) Λ₀ .tc) α}
    (A : Finset src.view.ref.ty.Idx) (B : Finset dm.view.ref.ty.Idx) (hA : src.view.set = A) (hB : dm.view.set = B)
    (q : PosShare TreeShare) (fs : src.view.ref.ty.Contents (Elt F)) (g : dm.view.ref.ty.Contents (Elt F)) (G : sProp 𝕄)
    (hN : dm.view.dmaCredit = N i.val) (hfg : ∀ x, dm.view.read (Elt F) g x = src.view.read (Elt F) fs x)
    (hp₁ : pt c src.view.ref A q fs ⊢ dmaPay m c (i.val + 5))
    (hp₂ : iprop(pt (dst c i) dm.view.ref B fullShare g ∗ G) ⊢ dmaPay m (dst c i) (12 + i.val + 5)) :
    iprop(Ctx m K ∗ pt c src.view.ref A q fs ∗ (ptE (dst c i) dm.view.ref B ∗ G) ∗ ow c (owedL c (i :: l)) ∗ stok c i)
      ⊢ iprop(((cred (tallyAt (xcell c (snd i)) () (N i.val)) ∗ ow c (owedL c l)) -∗ wpc c (k ⟨⟩) Q)
          -∗ wpc c (.op (.enqueueDma src (.remote (Dev.tc n : Thread nD τ) dm (.dma sS) hsc) (.dma sem) hsrc hdst hsem) k) Q) := by
  subst hA hB
  iintro ⟨#HC, Hs, ⟨⟨%fd, Hd⟩, HG⟩, HO, Ht⟩ Hk
  iapply (wp_copy m K c n i l hn hS hR q fs fd G hN hp₁
    (by
      refine Entails.trans (sep_mono (Entails.of_eq ?_) Entails.rfl) hp₂
      exact pointsTo_congr (write_on dm.view fd g _ hfg))) $$ [Hs Hd HG HO Ht] [Hk]
  · isplitr; · iexact HC
    isplitl [Hs]; · iexact Hs
    isplitl [Hd HG]
    · isplitl [Hd]; · iexact Hd
      iexact HG
    isplitl [HO]; · iexact HO
    iexact Ht
  · iexact Hk

/-- Waiting on copy semaphore `k`, at what it is to hand over. -/
theorem aw (K : Dev nD × Cix → ℕ) (c : Dev nD) (k : Fin 24) (l : List (Fin 12))
    (hl : ∀ i ∈ l, lv (xcell c k) () < i.val + 2) (P : sProp 𝕄) (hP : dmaPay m c (k.val + 5) ⊢ P)
    {sp sp' : Space} {s : Shape} {e : EltTy} {src : Memref sig .tc sp' s e} {dm : Memref sig .tc sp s e} {sem : DmaSem sig} (hS : sem = xs k)
    {hsrc : src.view.WordExact} {hdst : dm.view.WordExact}
    {α : Type} {Q : α → sProp 𝕄} {kk : PUnit → Prog (TpuEff nD τ sig (Elt F) Λ₀ .tc) α}
    (hN : dm.view.dmaCredit = N (k.val % 12)) :
    iprop(Ctx m K ∗ wtok c k ∗ ow c (owedL c l))
      ⊢ iprop(((semVal (xcell c k) 0 ∗ P ∗ ow c (owedL c l)) -∗ wpc c (kk ⟨⟩) Q)
          -∗ wpc c (.op (.waitDma2 sem src dm hsrc hdst) kk) Q) := by
  iintro H Hk
  iapply (wp_await m K c k l hl hS hN) $$ [H]
  · iexact H
  iintro ⟨Hz, Hp, HO⟩
  iapply Hk
  isplitl [Hz]; · iexact Hz
  isplitl [Hp]; · iapply hP; iexact Hp
  iexact HO

/-- The credit a started copy leaves for the wait on its send semaphore. -/
abbrev sent (c : Dev nD) (i : Fin 12) : sProp 𝕄 := cred (tallyAt (xcell c (snd i)) () (N i.val))

theorem wtok_mk (c : Dev nD) (i : Fin 12) :
    iprop(sent c i ∗ atPos ER (xcell c (snd i)) 0 ∅ 0 : sProp 𝕄) ⊢ wtok c (snd i) := by
  unfold wtok
  rw [show (snd i).val % 12 = i.val from Nat.mod_eq_of_lt i.isLt]

theorem opp_right (c : Dev nD) : opp (right c) = left c := by revert c; decide
theorem opp_left (c : Dev nD) : opp (left c) = right c := by revert c; decide

/-! ## The halves of the block for the device opposite, and the result, row block by row block -/

abbrev vT : View sig .tc .vmem rT.shape .bf16 := (Memref.whole bo : Memref sig .tc .vmem S1024x512 .bf16).access rT
abbrev vB : View sig .tc .vmem rB.shape .bf16 := (Memref.whole bo : Memref sig .tc .vmem S1024x512 .bf16).access rB
theorem set_rT : vT.set = R1 0 512 := (View.set_slice_whole bo rT).trans (rows1 0 512 _)
theorem set_rB : vB.set = R1 512 1024 := (View.set_slice_whole bo rB).trans (rows1 512 512 _)
theorem boF_lo (c : Dev nD) (f : Vec F S1024x512 .bf16) (i : S1024x512.Idx) (hi : i ∈ R1 0 512) : stBo rT f (boLo m c) i = boF m c i := by
  have h1 : i ∈ vT.set := by rw [set_rT]; exact hi
  have h2 : i ∉ vB.set := by rw [set_rB]; intro h; rw [mem_R1] at h; have := (mem_R1.mp hi).2; exact absurd h.1 (by omega)
  exact ((write_off vB (stBo rT (brF m c) (boLo m c)) (boHi m c) i h2).trans (write_base vT (brF m c) f (boLo m c) i (Or.inl h1))).symm
theorem boF_hi (c : Dev nD) (f : Vec F S1024x512 .bf16) (i : S1024x512.Idx) (hi : i ∈ R1 512 1024) : stBo rB f (boHi m c) i = boF m c i := by
  have h1 : i ∈ vB.set := by rw [set_rB]; exact hi
  exact write_base vB f (stBo rT (brF m c) (boLo m c)) (boHi m c) i (Or.inl h1)

abbrev stOut (r : Rect S4096x512) (f : Vec F S4096x512 .f32) (w : Vec F r.shape .f32) : Vec F S4096x512 .f32 :=
  ((Memref.whole bOut : Memref sig .tc .vmem S4096x512 .f32).access r : View sig .tc _ _ _).write (Elt F) f w Finset.univ
abbrev ldRbo (r : Rect S1024x512) (f : Vec F S1024x512 .bf16) := (Memref.whole rbo : Memref sig .tc .vmem S1024x512 .bf16).view.readAt (Elt F) r.toLoadRect f
abbrev rO1 (c : Dev nD) : Rect S4096x512 := Rect.unit (s := S4096x512) (k0_off1 c) S1024x512.size (k0_off1_inb c)
abbrev rO2 (c : Dev nD) : Rect S4096x512 := Rect.unit (s := S4096x512) (k0_off2 c) S1024x512.size (k0_off2_inb c)
abbrev rO3 (c : Dev nD) : Rect S4096x512 := Rect.unit (s := S4096x512) (k0_off3 c) S1024x512.size (k0_off3_inb c)
abbrev rO4 (c : Dev nD) : Rect S4096x512 := Rect.unit (s := S4096x512) (k0_off4 c 0#32) S512x512.size (k0_off4_inb c 0)
abbrev rO5 (c : Dev nD) : Rect S4096x512 := Rect.unit (s := S4096x512) (k0_off4 c 512#32) S512x512.size (k0_off4_inb c 1)
/-- The row blocks of device `c`'s result, in the order they are written: its own, its left and right neighbours', the two halves
    of the one from the device opposite. -/
def out1 (c : Dev nD) (f : Vec F S4096x512 .f32) : Vec F S4096x512 .f32 := stOut (rO1 c) f (k0_pay5 (sx m c) (sw m c) (X m c) (W m c))
def out2 (c : Dev nD) (f : Vec F S4096x512 .f32) : Vec F S4096x512 .f32 := stOut (rO2 c) (out1 m c f) (k0_pay12 (brF m (left c)))
def out3 (c : Dev nD) (f : Vec F S4096x512 .f32) : Vec F S4096x512 .f32 := stOut (rO3 c) (out2 m c f) (k0_pay13 (blF m (right c)))
def out4 (c : Dev nD) (f : Vec F S4096x512 .f32) : Vec F S4096x512 .f32 := stOut (rO4 c) (out3 m c f) (k0_pay14 (ldRbo rT (boF m (opp c))))
def out5 (c : Dev nD) (f : Vec F S4096x512 .f32) : Vec F S4096x512 .f32 := stOut (rO5 c) (out4 m c f) (k0_pay15 (ldRbo rB (boF m (opp c))))

end Cert.KernelIdeal.RingMM

end
-- ==== Proof.Part1.lean ====
/-
The handshake and the store of the own columns.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The handshake: `c` hands its neighbours the right to write the buffers their copies land in, receives theirs, and stores
    its columns of `w`. -/
theorem part1_spec (K : Dev nD × Cix → ℕ) (c : Dev nD) :
    iprop(Ctx m K ∗ ow c (O₀ c) ∗ dutyTok ER (barCell (left c)) 0 true ∗ dutyTok ER (barCell (right c)) 0 false
        ∗ cred (tallyAt (barCell c) () 2) ∗ atPos ER (barCell c) 0 ∅ 0
        ∗ pt c bW Finset.univ fullShare (win m c) ∗ ptE c w8 Finset.univ ∗ ptE c wl Finset.univ ∗ ptE c wr Finset.univ ∗ ptE c wo Finset.univ
        ∗ ptE c rbl Finset.univ ∗ ptE c rbr Finset.univ)
      ⊢ wpc c (k0_part1 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13) (fun r => iprop(⌜r.1 = c⌝ ∗ semVal (barCell c) 0 ∗ ow c (owedL c order)
        ∗ pt c bW Finset.univ fullShare (win m c) ∗ pt c w8 Finset.univ fullShare (W m c)
        ∗ barPay c true ∗ barPay c false)) := by
  rw [k0_part1_eq_skeleton]; unfold k0_part1_skel
  simp only [semSignalWord, semWaitWord, Prog.lift, Prog.bind_op, Prog.bind_ret, Prog.pure_eq_ret, wp_deviceId]
  simp only [dev1_eq c, dev2_eq c]
  iintro ⟨#HC, HO, HtL, HtR, Hc, Hat, HW, ⟨%fw, Hw8⟩, Hwl, Hwr, Hwo, Hrbl, Hrbr⟩
  ihave HO := (show ow c (O₀ c) ⊢ iprop(∃ Wt, owes (c : Thread nD τ) (O₀ c) Wt) from Entails.rfl) $$ HO
  icases HO with ⟨%Wt, HO⟩
  ihave Hwo := (ptE_cut c wo Finset.univ (R4 0 2048) (R4 2048 4096) R4_halves (R4_disj _ _ _)) $$ Hwo
  icases Hwo with ⟨Hwo1, Hwo2⟩
  ihave #HIL := (inv_at m K (left c, .inl ())) $$ HC
  ihave #HIR := (inv_at m K (right c, .inl ())) $$ HC
  ihave #HI := (inv_at m K (c, .inl ())) $$ HC
  ihave #HRL := (reached_at m K (left c, .inl ())) $$ HC
  ihave #HRR := (reached_at m K (right c, .inl ())) $$ HC
  ihave #HL := (lev_at m K) $$ HC
  -- the unit for the left neighbour
  iapply (Rounds.wp_signal 𝒱₀ ER (Rd m) (c : Thread nD τ) none (dst := (left c : Thread nD τ)) (κ := K (left c, .inl ()))
      (d := true) (by rw [duties_bar]; exact Finset.mem_univ _) ((bar_amount (left c) m true).trans (by decide)) () (O₁ c) rfl)
    $$ [HO HtL Hwl Hwo1 Hrbl]
  · isplitr; · iexact HIL
    isplitl [HO]; · iexact HO
    isplitl [HtL]; · iexact HtL
    isplitl [Hwl Hwo1 Hrbl]
    · rw [show (Rd m).payload (barCell (left c)) 0 true = barPay (left c) true from rfl]
      unfold barPay; rw [right_left]
      isplitl [Hwl]; · iexact Hwl
      isplitl [Hwo1]; · iexact Hwo1
      iexact Hrbl
    · iexact HRL
  iintro HO
  unfold O₁
  -- the unit for the right neighbour
  iapply (Rounds.wp_signal 𝒱₀ ER (Rd m) (c : Thread nD τ) none (dst := (right c : Thread nD τ)) (κ := K (right c, .inl ()))
      (d := false) (by rw [duties_bar]; exact Finset.mem_univ _) ((bar_amount (right c) m false).trans (by decide)) () (owedL c order) rfl)
    $$ [HO HtR Hwr Hwo2 Hrbr]
  · isplitr; · iexact HIR
    isplitl [HO]; · iexact HO
    isplitl [HtR]; · iexact HtR
    isplitl [Hwr Hwo2 Hrbr]
    · rw [show (Rd m).payload (barCell (right c)) 0 false = barPay (right c) false from rfl]
      unfold barPay; rw [left_right]
      isplitl [Hwr]; · iexact Hwr
      isplitl [Hwo2]; · iexact Hwo2
      iexact Hrbr
    · iexact HRR
  iintro HO
  -- its own two units
  iapply (Rounds.wp_wait_rest_token 𝒱₀ ER (Rd m) (c : Thread nD τ) none (κ := K (c, .inl ()))
      (wpE_semWait_eq 𝒱₀ (c : Thread nD τ) none Set.univ) (Set.mem_univ _) () (O := owedL c order) (W := Wt) (R := 0) (m := 0) (T := ∅)
      (by rw [expect_bar]; decide)) $$ [Hc HO Hat]
  · isplitr; · iexact HI
    isplitl [Hc]; · iexact Hc
    isplitl [HO]; · iexact HO
    isplitr; · iapply (mayWait_owedL c (.reg barS) order (fun i _ => show 1 < i.val + 2 by omega)); iexact HL
    iexact Hat
  iintro ⟨HO, Hat, -, Hp⟩
  ihave Hp := (Entails.of_eq (rest_bar m c)) $$ Hp
  icases Hp with ⟨Hp1, Hp2⟩
  imod (Rounds.cell_close ER (Rd m) (Set.mem_univ (K (c, .inl ()))) (fun h => h) (R := 0 + 1) (duties_later m (barCell c))) $$ [Hat] with Hz
  · isplitr; · iexact HI
    iexact Hat
  ihave HO := (ow_intro c _ _) $$ HO
  -- its columns of `w`
  iapply (ld c (Memref.whole bW) Finset.univ fullShare (win m c) (win m c) (Finset.subset_univ _) (Memref.readAt_unit_zero (Elt F) bW hz _ _)) $$ HW; iintro HW
  iapply (ld c (Memref.whole w8) Finset.univ fullShare fw fw (Finset.subset_univ _) (Memref.readAt_unit_zero (Elt F) w8 hz _ _)) $$ Hw8; iintro Hw8
  iapply (st c (Memref.whole w8) (r := Rect.unit ![0, 0] ![4096, 512] inb_S4096x512_S4096x512_0_0) (w := k0_pay1 (win m c)) Finset.univ fw (W m c) (Finset.subset_univ _)
    (fun i _ => congrFun (Memref.write_access_unit_zero_univ (Elt F) w8 hz _ _ _) i)) $$ Hw8; iintro Hw8
  iapply (Entails.of_eq (wp_ret ..).symm); imodintro
  isplitr; · ipureintro; rfl
  isplitl [Hz]; · iexact Hz
  isplitl [HO]; · iexact HO
  isplitl [HW]; · iexact HW
  isplitl [Hw8]; · iexact Hw8
  isplitl [Hp1]; · iexact Hp1
  iexact Hp2

end Cert.KernelIdeal.RingMM

end
-- ==== Proof.Part2.lean ====
/-
The first four copies.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- Sending the own columns both ways round, and loading the rows of `x`. With the right neighbour's first half goes the right to
    write this device's landing buffer for partial sums, which travels on to the device opposite. -/
theorem part2_spec (K : Dev nD × Cix → ℕ) (c : Dev nD) (v5 v7 : BitVec 32) :
    iprop(Ctx m K ∗ ow c (owedL c order) ∗ stok c 0 ∗ stok c 2 ∗ stok c 1 ∗ stok c 3
        ∗ pt c bX Finset.univ fullShare (xin m c) ∗ pt c w8 Finset.univ fullShare (W m c)
        ∗ ptE (right c) wl Finset.univ ∗ ptE (left c) wr Finset.univ ∗ ptE c rbo Finset.univ)
      ⊢ wpc c (k0_part2 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 c v5 v7) (fun r => iprop(⌜r = k0_pay2 (xin m c)⌝ ∗ ow c (owedL c [4, 5, 6, 7, 8, 9, 10, 11])
        ∗ sent c 0 ∗ sent c 2 ∗ sent c 1 ∗ sent c 3
        ∗ pt c bX Finset.univ fullShare (xin m c) ∗ pt c w8 Finset.univ sR (W m c))) := by
  rw [k0_part2_eq_skeleton]; unfold k0_part2_skel order
  simp only [semSignalWord, semWaitWord, Prog.lift, Prog.bind_op, Prog.bind_ret, Prog.pure_eq_ret]
  iintro ⟨#HC, HO, Ht0, Ht2, Ht1, Ht3, HX, Hw, Hl, Hr, Hrbo⟩
  ihave Hw := (pt_halves c w8 Finset.univ fullShare (W m c)).1 $$ Hw
  icases Hw with ⟨HwL, HwR⟩
  ihave HwL := (pt_halves c w8 Finset.univ sL (W m c)).1 $$ HwL
  icases HwL with ⟨HwA, HwB⟩
  ihave HwA := (pt_cut c w8 Finset.univ (R4 0 2048) (R4 2048 4096) sLL (W m c) R4_halves (R4_disj _ _ _)).1 $$ HwA
  icases HwA with ⟨HwA1, HwA2⟩
  ihave HwB := (pt_cut c w8 Finset.univ (R4 0 2048) (R4 2048 4096) sLR (W m c) R4_halves (R4_disj _ _ _)).1 $$ HwB
  icases HwB with ⟨HwB1, HwB2⟩
  ihave Hl := (ptE_cut (right c) wl Finset.univ (R4 0 2048) (R4 2048 4096) R4_halves (R4_disj _ _ _)) $$ Hl
  icases Hl with ⟨Hl1, Hl2⟩
  ihave Hr := (ptE_cut (left c) wr Finset.univ (R4 0 2048) (R4 2048 4096) R4_halves (R4_disj _ _ _)) $$ Hr
  icases Hr with ⟨Hr1, Hr2⟩
  iapply (cp m K c _ 0 [2, 1, 3, 4, 5, 6, 7, 8, 9, 10, 11] (dev3_eq c) rfl rfl (src := (Memref.whole w8).slice (Rect.unit (s := S4096x512) ![0, 0] S2048x512.size inb_S4096x512_S2048x512_0_0) (fun _ => rfl)) (dm := (Memref.whole wl).slice (Rect.unit (s := S4096x512) ![0, 0] S2048x512.size inb_S4096x512_S2048x512_0_0) (fun _ => rfl)) (R4 0 2048) (R4 0 2048)
      ((set_slice4 w8 _ _).trans (rows4 0 2048 _)) ((set_slice4 wl _ _).trans (rows4 0 2048 _)) sLL (W m c) (W m c) (ptE c rbo Finset.univ) rfl (fun _ => rfl) (Entails.rfl) (by rw [show dmaPay m (dst c 0) (12 + (0 : Fin 12).val + 5) = iprop(pt (right c) wl (R4 0 2048) fullShare (W m (left (right c))) ∗ ptE (left (right c)) rbo Finset.univ) from rfl, left_right]; exact Entails.rfl)) $$ [HwA1 Hl1 Hrbo HO Ht0]
  · isplitr; · iexact HC
    isplitl [HwA1]; · iexact HwA1
    isplitl [Hl1 Hrbo]
    · isplitl [Hl1]; · iexact Hl1
      iexact Hrbo
    isplitl [HO]; · iexact HO
    iexact Ht0
  iintro ⟨Hc0, HO⟩
  iapply (cp m K c _ 2 [1, 3, 4, 5, 6, 7, 8, 9, 10, 11] (dev4_eq c) rfl rfl (src := (Memref.whole w8).slice (Rect.unit (s := S4096x512) ![2048, 0] S2048x512.size inb_S4096x512_S2048x512_2048_0) (fun _ => rfl)) (dm := (Memref.whole wr).slice (Rect.unit (s := S4096x512) ![2048, 0] S2048x512.size inb_S4096x512_S2048x512_2048_0) (fun _ => rfl)) (R4 2048 4096) (R4 2048 4096)
      ((set_slice4 w8 _ _).trans (rows4 2048 2048 _)) ((set_slice4 wr _ _).trans (rows4 2048 2048 _)) sLR (W m c) (W m c) iprop(emp) rfl (fun _ => rfl) (Entails.rfl) (by rw [show dmaPay m (dst c 2) (12 + (2 : Fin 12).val + 5) = pt (left c) wr (R4 2048 4096) fullShare (W m (right (left c))) from rfl, right_left]; exact Laws.sep_emp.1)) $$ [HwB2 Hr2 HO Ht2]
  · isplitr; · iexact HC
    isplitl [HwB2]; · iexact HwB2
    isplitl [Hr2]
    · isplitl [Hr2]; · iexact Hr2
      iempintro
    isplitl [HO]; · iexact HO
    iexact Ht2
  iintro ⟨Hc2, HO⟩
  iapply (cp m K c _ 1 [3, 4, 5, 6, 7, 8, 9, 10, 11] (dev5_eq c) rfl rfl (src := (Memref.whole w8).slice (Rect.unit (s := S4096x512) ![2048, 0] S2048x512.size inb_S4096x512_S2048x512_2048_0) (fun _ => rfl)) (dm := (Memref.whole wl).slice (Rect.unit (s := S4096x512) ![2048, 0] S2048x512.size inb_S4096x512_S2048x512_2048_0) (fun _ => rfl)) (R4 2048 4096) (R4 2048 4096)
      ((set_slice4 w8 _ _).trans (rows4 2048 2048 _)) ((set_slice4 wl _ _).trans (rows4 2048 2048 _)) sLL (W m c) (W m c) iprop(emp) rfl (fun _ => rfl) (Entails.rfl) (by rw [show dmaPay m (dst c 1) (12 + (1 : Fin 12).val + 5) = pt (right c) wl (R4 2048 4096) fullShare (W m (left (right c))) from rfl, left_right]; exact Laws.sep_emp.1)) $$ [HwA2 Hl2 HO Ht1]
  · isplitr; · iexact HC
    isplitl [HwA2]; · iexact HwA2
    isplitl [Hl2]
    · isplitl [Hl2]; · iexact Hl2
      iempintro
    isplitl [HO]; · iexact HO
    iexact Ht1
  iintro ⟨Hc1, HO⟩
  iapply (cp m K c _ 3 [4, 5, 6, 7, 8, 9, 10, 11] (dev6_eq c) rfl rfl (src := (Memref.whole w8).slice (Rect.unit (s := S4096x512) ![0, 0] S2048x512.size inb_S4096x512_S2048x512_0_0) (fun _ => rfl)) (dm := (Memref.whole wr).slice (Rect.unit (s := S4096x512) ![0, 0] S2048x512.size inb_S4096x512_S2048x512_0_0) (fun _ => rfl)) (R4 0 2048) (R4 0 2048)
      ((set_slice4 w8 _ _).trans (rows4 0 2048 _)) ((set_slice4 wr _ _).trans (rows4 0 2048 _)) sLR (W m c) (W m c) iprop(emp) rfl (fun _ => rfl) (Entails.rfl) (by rw [show dmaPay m (dst c 3) (12 + (3 : Fin 12).val + 5) = pt (left c) wr (R4 0 2048) fullShare (W m (right (left c))) from rfl, right_left]; exact Laws.sep_emp.1)) $$ [HwB1 Hr1 HO Ht3]
  · isplitr; · iexact HC
    isplitl [HwB1]; · iexact HwB1
    isplitl [Hr1]
    · isplitl [Hr1]; · iexact Hr1
      iempintro
    isplitl [HO]; · iexact HO
    iexact Ht3
  iintro ⟨Hc3, HO⟩
  iapply (ld c (Memref.whole bX) Finset.univ fullShare (xin m c) (xin m c) (Finset.subset_univ _) (Memref.readAt_unit_zero (Elt F) bX hz _ _)) $$ HX; iintro HX
  iapply (Entails.of_eq (wp_ret ..).symm); imodintro
  isplitr; · ipureintro; rfl
  isplitl [HO]; · iexact HO
  isplitl [Hc0]; · iexact Hc0
  isplitl [Hc2]; · iexact Hc2
  isplitl [Hc1]; · iexact Hc1
  isplitl [Hc3]; · iexact Hc3
  isplitl [HX]; · iexact HX
  iexact HwR

end Cert.KernelIdeal.RingMM

end
-- ==== Proof.Part3.lean ====
/-
The own block of the result, and the first quarter passed on to the right.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The store of the rows of `x`, the two scales, the own block of the result; the left neighbour's first half has landed, its first
    quarter goes on to the right. -/
theorem part3_spec (K : Dev nD × Cix → ℕ) (c : Dev nD) (v2 v7 : BitVec 32) (f : Vec F S4096x512 .f32) :
    iprop(Ctx m K ∗ ow c (owedL c [4, 5, 6, 7, 8, 9, 10, 11]) ∗ stok c 4 ∗ wtok c (rcv 0) ∗ ptE (c) x8 Finset.univ ∗ pt c bSx Finset.univ fullShare (sxin m c) ∗ pt c bSw Finset.univ fullShare (swin m c) ∗ pt c w8 Finset.univ sR (W m c) ∗ pt c bOut Finset.univ fullShare (f) ∗ ptE (right c) wo (R4 0 1024))
      ⊢ wpc c (k0_part3 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 c v2 v7 (k0_pay2 (xin m c))) (fun r => iprop(⌜r.1 = sc m c⌝ ∗ ow c (owedL c [5, 6, 7, 8, 9, 10, 11]) ∗ sent c 4 ∗ semVal (xcell c (rcv 0)) 0 ∗ pt c x8 Finset.univ fullShare (X m c) ∗ pt c bSx Finset.univ fullShare (sxin m c) ∗ pt c bSw Finset.univ fullShare (swin m c) ∗ pt c w8 Finset.univ sR (W m c) ∗ pt c bOut Finset.univ fullShare (out1 m c f) ∗ pt c wl (R4 0 2048) sR (W m (left c)) ∗ pt c wl (R4 1024 2048) sL (W m (left c)))) := by
  rw [k0_part3_eq_skeleton]; unfold k0_part3_skel
  simp only [semSignalWord, semWaitWord, Prog.lift, Prog.bind_op, Prog.bind_ret, Prog.pure_eq_ret]
  iintro ⟨#HC, HO, Ht4, Hk, Hx, Hsx, Hsw, Hw, Ho, Hwo⟩
  icases Hx with ⟨%fx, Hx⟩
  iapply (ld c (Memref.whole x8) Finset.univ fullShare fx fx (Finset.subset_univ _) (Memref.readAt_unit_zero (Elt F) x8 hz _ _)) $$ Hx; iintro Hx
  iapply (st c (Memref.whole x8) (r := Rect.unit ![0, 0] ![1024, 4096] inb_S1024x4096_S1024x4096_0_0) (w := k0_pay3 (k0_pay2 (xin m c))) Finset.univ fx (X m c) (Finset.subset_univ _)
    (fun i _ => congrFun (Memref.write_access_unit_zero_univ (Elt F) x8 hz _ _ _) i)) $$ Hx; iintro Hx
  unfold smemLoad smemLoadElt
  simp only [Prog.bind_op, Prog.bind_ret]
  iapply (ld c (Memref.whole bSx) (r := (rOne).toLoadRect) (Finset.univ) fullShare (sxin m c) (_) (Finset.subset_univ _) rfl) $$ Hsx; iintro Hsx
  iapply (ld c (Memref.whole bSw) (r := (rOne).toLoadRect) (Finset.univ) fullShare (swin m c) (_) (Finset.subset_univ _) rfl) $$ Hsw; iintro Hsw
  iapply (ld c (Memref.whole x8) Finset.univ fullShare (X m c) (X m c) (Finset.subset_univ _) (Memref.readAt_unit_zero (Elt F) x8 hz _ _)) $$ Hx; iintro Hx
  iapply (ld c (Memref.whole w8) Finset.univ sR (W m c) (W m c) (Finset.subset_univ _) (Memref.readAt_unit_zero (Elt F) w8 hz _ _)) $$ Hw; iintro Hw
  iapply (ld c (Memref.whole bOut) (r := (rO1 c).toLoadRect) (Finset.univ) fullShare (f) (_) (Finset.subset_univ _) rfl) $$ Ho; iintro Ho
  iapply (st c (Memref.whole bOut) (r := rO1 c) (w := k0_pay5 (sx m c) (sw m c) (X m c) (W m c)) Finset.univ f (out1 m c f) (Finset.subset_univ _)
    (fun i _ => rfl)) $$ Ho; iintro Ho
  iapply (aw m K c (rcv 0) [4, 5, 6, 7, 8, 9, 10, 11] (fun j hj => by rw [lv_rcv]; revert j; decide) (iprop(pt c wl (R4 0 2048) fullShare (W m (left c)) ∗ ptE (left c) rbo Finset.univ)) (Entails.of_eq rfl) (dm := (Memref.whole wl).slice (Rect.unit (s := S4096x512) ![0, 0] S2048x512.size inb_S4096x512_S2048x512_0_0) (fun _ => rfl)) rfl rfl) $$ [Hk HO]
  · isplitr; · iexact HC
    isplitl [Hk]; · iexact Hk
    iexact HO
  iintro ⟨Hz, Hp, HO⟩
  icases Hp with ⟨Hl, Hrbo⟩
  ihave Hl := (pt_halves c wl (R4 0 2048) fullShare (W m (left c))).1 $$ Hl
  icases Hl with ⟨HlL, HlR⟩
  ihave HlL := (pt_cut c wl (R4 0 2048) (R4 0 1024) (R4 1024 2048) sL (W m (left c)) (R4_union 0 1024 2048 (by decide) (by decide)) (R4_disj _ _ _)).1 $$ HlL
  icases HlL with ⟨Hl1, Hl2⟩
  iapply (cp m K c _ 4 [5, 6, 7, 8, 9, 10, 11] (dev7_eq c) rfl rfl (src := (Memref.whole wl).slice (Rect.unit (s := S4096x512) ![0, 0] S1024x512.size inb_S4096x512_S1024x512_0_0) (fun _ => rfl)) (dm := (Memref.whole wo).slice (Rect.unit (s := S4096x512) ![0, 0] S1024x512.size inb_S4096x512_S1024x512_0_0) (fun _ => rfl)) (R4 0 1024) (R4 0 1024)
      ((set_slice4 wl _ _).trans (rows4 0 1024 _)) ((set_slice4 wo _ _).trans (rows4 0 1024 _)) sL (W m (left c)) (W m (left c)) (ptE (left c) rbo Finset.univ) rfl (fun _ => rfl) (Entails.rfl) (by rw [show dmaPay m (dst c 4) (12 + (4 : Fin 12).val + 5) = iprop(pt (right c) wo (R4 0 1024) fullShare (W m (opp (right c))) ∗ ptE (opp (right c)) rbo Finset.univ) from rfl, opp_right]; exact Entails.rfl)) $$ [Hl1 Hwo Hrbo HO Ht4]
  · isplitr; · iexact HC
    isplitl [Hl1]; · iexact Hl1
    isplitl [Hwo Hrbo]
    · isplitl [Hwo]; · iexact Hwo
      iexact Hrbo
    isplitl [HO]; · iexact HO
    iexact Ht4
  iintro ⟨Hc4, HO⟩
  iapply (Entails.of_eq (wp_ret ..).symm); imodintro
  isplitr; · ipureintro; rfl
  isplitl [HO]; · iexact HO
  isplitl [Hc4]; · iexact Hc4
  isplitl [Hz]; · iexact Hz
  isplitl [Hx]; · iexact Hx
  isplitl [Hsx]; · iexact Hsx
  isplitl [Hsw]; · iexact Hsw
  isplitl [Hw]; · iexact Hw
  isplitl [Ho]; · iexact Ho
  isplitl [HlR]; · iexact HlR
  iexact Hl2

end Cert.KernelIdeal.RingMM

end
-- ==== Proof.Part4.lean ====
/-
The second quarter on to the right; the right neighbour's second half has landed, its first quarter goes on to the left.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The second quarter goes on to the right; the right neighbour's second half has landed, its first quarter goes on to the left. -/
theorem part4_spec (K : Dev nD × Cix → ℕ) (c : Dev nD) (v5 v7 w : BitVec 32) :
    iprop(Ctx m K ∗ ow c (owedL c [5, 6, 7, 8, 9, 10, 11]) ∗ stok c 5 ∗ stok c 6 ∗ wtok c (rcv 2) ∗ pt c wl (R4 1024 2048) sL (W m (left c)) ∗ ptE (right c) wo (R4 1024 2048) ∗ ptE (left c) wo (R4 2048 3072))
      ⊢ wpc c (k0_part4 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 c v5 v7 w) (fun r => iprop(ow c (owedL c [7, 8, 9, 10, 11]) ∗ sent c 5 ∗ sent c 6 ∗ semVal (xcell c (rcv 2)) 0 ∗ pt c wr (R4 2048 4096) sR (W m (right c)) ∗ pt c wr (R4 3072 4096) sL (W m (right c)))) := by
  rw [k0_part4_eq_skeleton]; unfold k0_part4_skel
  simp only [semSignalWord, semWaitWord, Prog.lift, Prog.bind_op, Prog.bind_ret, Prog.pure_eq_ret]
  iintro ⟨#HC, HO, Ht5, Ht6, Hk, Hl2, Hwo1, Hwo2⟩
  iapply (cp m K c _ 5 [6, 7, 8, 9, 10, 11] (dev8_eq c) rfl rfl (src := (Memref.whole wl).slice (Rect.unit (s := S4096x512) ![1024, 0] S1024x512.size inb_S4096x512_S1024x512_1024_0) (fun _ => rfl)) (dm := (Memref.whole wo).slice (Rect.unit (s := S4096x512) ![1024, 0] S1024x512.size inb_S4096x512_S1024x512_1024_0) (fun _ => rfl)) (R4 1024 2048) (R4 1024 2048)
      ((set_slice4 wl _ _).trans (rows4 1024 1024 _)) ((set_slice4 wo _ _).trans (rows4 1024 1024 _)) sL (W m (left c)) (W m (left c)) iprop(emp) rfl (fun _ => rfl) (Entails.rfl) (by rw [show dmaPay m (dst c 5) (12 + (5 : Fin 12).val + 5) = pt (right c) wo (R4 1024 2048) fullShare (W m (opp (right c))) from rfl, opp_right]; exact Laws.sep_emp.1)) $$ [Hl2 Hwo1 HO Ht5]
  · isplitr; · iexact HC
    isplitl [Hl2]; · iexact Hl2
    isplitl [Hwo1]
    · isplitl [Hwo1]; · iexact Hwo1
      iempintro
    isplitl [HO]; · iexact HO
    iexact Ht5
  iintro ⟨Hc5, HO⟩
  iapply (aw m K c (rcv 2) [6, 7, 8, 9, 10, 11] (fun j hj => by rw [lv_rcv]; revert j; decide) (pt c wr (R4 2048 4096) fullShare (W m (right c))) (Entails.of_eq rfl) (dm := (Memref.whole wr).slice (Rect.unit (s := S4096x512) ![2048, 0] S2048x512.size inb_S4096x512_S2048x512_2048_0) (fun _ => rfl)) rfl rfl) $$ [Hk HO]
  · isplitr; · iexact HC
    isplitl [Hk]; · iexact Hk
    iexact HO
  iintro ⟨Hz, Hr, HO⟩
  ihave Hr := (pt_halves c wr (R4 2048 4096) fullShare (W m (right c))).1 $$ Hr
  icases Hr with ⟨HrL, HrR⟩
  ihave HrL := (pt_cut c wr (R4 2048 4096) (R4 2048 3072) (R4 3072 4096) sL (W m (right c)) (R4_union 2048 3072 4096 (by decide) (by decide)) (R4_disj _ _ _)).1 $$ HrL
  icases HrL with ⟨Hr1, Hr2⟩
  iapply (cp m K c _ 6 [7, 8, 9, 10, 11] (dev9_eq c) rfl rfl (src := (Memref.whole wr).slice (Rect.unit (s := S4096x512) ![2048, 0] S1024x512.size inb_S4096x512_S1024x512_2048_0) (fun _ => rfl)) (dm := (Memref.whole wo).slice (Rect.unit (s := S4096x512) ![2048, 0] S1024x512.size inb_S4096x512_S1024x512_2048_0) (fun _ => rfl)) (R4 2048 3072) (R4 2048 3072)
      ((set_slice4 wr _ _).trans (rows4 2048 1024 _)) ((set_slice4 wo _ _).trans (rows4 2048 1024 _)) sL (W m (right c)) (W m (right c)) iprop(emp) rfl (fun _ => rfl) (Entails.rfl) (by rw [show dmaPay m (dst c 6) (12 + (6 : Fin 12).val + 5) = pt (left c) wo (R4 2048 3072) fullShare (W m (opp (left c))) from rfl, opp_left]; exact Laws.sep_emp.1)) $$ [Hr1 Hwo2 HO Ht6]
  · isplitr; · iexact HC
    isplitl [Hr1]; · iexact Hr1
    isplitl [Hwo2]
    · isplitl [Hwo2]; · iexact Hwo2
      iempintro
    isplitl [HO]; · iexact HO
    iexact Ht6
  iintro ⟨Hc6, HO⟩
  iapply (Entails.of_eq (wp_ret ..).symm); imodintro
  isplitl [HO]; · iexact HO
  isplitl [Hc5]; · iexact Hc5
  isplitl [Hc6]; · iexact Hc6
  isplitl [Hz]; · iexact Hz
  isplitl [HrR]; · iexact HrR
  iexact Hr2

end Cert.KernelIdeal.RingMM

end
-- ==== Proof.Part5.lean ====
/-
The block computed for the left neighbour.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The last quarter goes on to the left; the left neighbour's columns are all here: its block is computed, rounded and sent to it. -/
theorem part5_spec (K : Dev nD × Cix → ℕ) (c : Dev nD) (v5 v7 : BitVec 32) :
    iprop(Ctx m K ∗ ow c (owedL c [7, 8, 9, 10, 11]) ∗ stok c 7 ∗ stok c 8 ∗ wtok c (rcv 1) ∗ pt c wr (R4 3072 4096) sL (W m (right c)) ∗ ptE (left c) wo (R4 3072 4096) ∗ pt c x8 Finset.univ fullShare (X m c) ∗ pt c wl (R4 0 2048) sR (W m (left c)) ∗ ptE (c) bl Finset.univ ∗ ptE (left c) rbr Finset.univ)
      ⊢ wpc c (k0_part5 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 c v5 v7 (sc m c)) (fun r => iprop(ow c (owedL c [9, 10, 11]) ∗ sent c 7 ∗ sent c 8 ∗ semVal (xcell c (rcv 1)) 0 ∗ pt c x8 Finset.univ fullShare (X m c) ∗ pt c wl Finset.univ sR (W m (left c)) ∗ pt c wl (R4 2048 4096) sL (W m (left c)))) := by
  rw [k0_part5_eq_skeleton]; unfold k0_part5_skel
  simp only [semSignalWord, semWaitWord, Prog.lift, Prog.bind_op, Prog.bind_ret, Prog.pure_eq_ret]
  iintro ⟨#HC, HO, Ht7, Ht8, Hk, Hr2, Hwo, Hx, HlR, Hbl, Hrbr⟩
  iapply (cp m K c _ 7 [8, 9, 10, 11] (dev10_eq c) rfl rfl (src := (Memref.whole wr).slice (Rect.unit (s := S4096x512) ![3072, 0] S1024x512.size inb_S4096x512_S1024x512_3072_0) (fun _ => rfl)) (dm := (Memref.whole wo).slice (Rect.unit (s := S4096x512) ![3072, 0] S1024x512.size inb_S4096x512_S1024x512_3072_0) (fun _ => rfl)) (R4 3072 4096) (R4 3072 4096)
      ((set_slice4 wr _ _).trans (rows4 3072 1024 _)) ((set_slice4 wo _ _).trans (rows4 3072 1024 _)) sL (W m (right c)) (W m (right c)) iprop(emp) rfl (fun _ => rfl) (Entails.rfl) (by rw [show dmaPay m (dst c 7) (12 + (7 : Fin 12).val + 5) = pt (left c) wo (R4 3072 4096) fullShare (W m (opp (left c))) from rfl, opp_left]; exact Laws.sep_emp.1)) $$ [Hr2 Hwo HO Ht7]
  · isplitr; · iexact HC
    isplitl [Hr2]; · iexact Hr2
    isplitl [Hwo]
    · isplitl [Hwo]; · iexact Hwo
      iempintro
    isplitl [HO]; · iexact HO
    iexact Ht7
  iintro ⟨Hc7, HO⟩
  iapply (aw m K c (rcv 1) [8, 9, 10, 11] (fun j hj => by rw [lv_rcv]; revert j; decide) (pt c wl (R4 2048 4096) fullShare (W m (left c))) (Entails.of_eq rfl) (dm := (Memref.whole wl).slice (Rect.unit (s := S4096x512) ![2048, 0] S2048x512.size inb_S4096x512_S2048x512_2048_0) (fun _ => rfl)) rfl rfl) $$ [Hk HO]
  · isplitr; · iexact HC
    isplitl [Hk]; · iexact Hk
    iexact HO
  iintro ⟨Hz, Hl, HO⟩
  ihave Hl := (pt_halves c wl (R4 2048 4096) fullShare (W m (left c))).1 $$ Hl
  icases Hl with ⟨HlL, HlR2⟩
  ihave Hwl := (pt_cut c wl Finset.univ (R4 0 2048) (R4 2048 4096) sR (W m (left c)) (R4_halves) (R4_disj _ _ _)).2 $$ [HlR HlR2]
  · isplitl [HlR]; · iexact HlR
    iexact HlR2
  iapply (ld c (Memref.whole x8) Finset.univ fullShare (X m c) (X m c) (Finset.subset_univ _) (Memref.readAt_unit_zero (Elt F) x8 hz _ _)) $$ Hx; iintro Hx
  iapply (ld c (Memref.whole wl) Finset.univ sR (W m (left c)) (W m (left c)) (Finset.subset_univ _) (Memref.readAt_unit_zero (Elt F) wl hz _ _)) $$ Hwl; iintro Hwl
  icases Hbl with ⟨%fb, Hbl⟩
  iapply (ld c (Memref.whole bl) Finset.univ fullShare (fb) (fb) (Finset.subset_univ _) (Memref.readAt_unit_zero (Elt F) bl hz _ _)) $$ Hbl; iintro Hbl
  iapply (st c (Memref.whole bl) (r := Rect.unit ![0, 0] ![1024, 512] inb_S1024x512_S1024x512_0_0) (w := k0_pay6 (sc m c) (X m c) (W m (left c))) Finset.univ fb (blF m c) (Finset.subset_univ _)
    (fun i _ => congrFun (Memref.write_access_unit_zero_univ (Elt F) bl hz _ _ _) i)) $$ Hbl; iintro Hbl
  iapply (cp m K c _ 8 [9, 10, 11] (dev11_eq c) rfl rfl (src := Memref.whole bl) (dm := Memref.whole rbr) (Finset.univ) (Finset.univ)
      (View.set_whole bl) (View.set_whole rbr) fullShare (blF m c) (blF m c) iprop(emp) rfl (fun _ => rfl) (Entails.rfl) (by rw [show dmaPay m (dst c 8) (12 + (8 : Fin 12).val + 5) = pt (left c) rbr Finset.univ fullShare (blF m (right (left c))) from rfl, right_left]; exact Laws.sep_emp.1)) $$ [Hbl Hrbr HO Ht8]
  · isplitr; · iexact HC
    isplitl [Hbl]; · iexact Hbl
    isplitl [Hrbr]
    · isplitl [Hrbr]; · iexact Hrbr
      iempintro
    isplitl [HO]; · iexact HO
    iexact Ht8
  iintro ⟨Hc8, HO⟩
  iapply (Entails.of_eq (wp_ret ..).symm); imodintro
  isplitl [HO]; · iexact HO
  isplitl [Hc7]; · iexact Hc7
  isplitl [Hc8]; · iexact Hc8
  isplitl [Hz]; · iexact Hz
  isplitl [Hx]; · iexact Hx
  isplitl [Hwl]; · iexact Hwl
  iexact HlL

end Cert.KernelIdeal.RingMM

end
-- ==== Proof.Part6.lean ====
/-
The block computed for the right neighbour.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The right neighbour's columns are all here: its block is computed, rounded and sent to it; two quarters of the opposite device's
    columns have landed. -/
theorem part6_spec (K : Dev nD × Cix → ℕ) (c : Dev nD) (v5 v7 : BitVec 32) :
    iprop(Ctx m K ∗ ow c (owedL c [9, 10, 11]) ∗ stok c 9 ∗ wtok c (rcv 3) ∗ wtok c (rcv 4) ∗ wtok c (rcv 6) ∗ pt c x8 Finset.univ fullShare (X m c) ∗ pt c wr (R4 2048 4096) sR (W m (right c)) ∗ ptE (c) br Finset.univ ∗ ptE (right c) rbl Finset.univ)
      ⊢ wpc c (k0_part6 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 c v5 v7 (sc m c)) (fun r => iprop(ow c (owedL c [10, 11]) ∗ sent c 9 ∗ semVal (xcell c (rcv 3)) 0 ∗ semVal (xcell c (rcv 4)) 0 ∗ semVal (xcell c (rcv 6)) 0 ∗ pt c x8 Finset.univ fullShare (X m c) ∗ pt c wr Finset.univ sR (W m (right c)) ∗ pt c wr (R4 0 2048) sL (W m (right c)) ∗ pt c wo (R4 0 1024) fullShare (W m (opp c)) ∗ pt c wo (R4 2048 3072) fullShare (W m (opp c)) ∗ ptE (opp c) rbo Finset.univ)) := by
  rw [k0_part6_eq_skeleton]; unfold k0_part6_skel
  simp only [semSignalWord, semWaitWord, Prog.lift, Prog.bind_op, Prog.bind_ret, Prog.pure_eq_ret]
  iintro ⟨#HC, HO, Ht9, Hk3, Hk4, Hk6, Hx, HrR, Hbr, Hrbl⟩
  iapply (aw m K c (rcv 3) [9, 10, 11] (fun j hj => by rw [lv_rcv]; revert j; decide) (pt c wr (R4 0 2048) fullShare (W m (right c))) (Entails.of_eq rfl) (dm := (Memref.whole wr).slice (Rect.unit (s := S4096x512) ![0, 0] S2048x512.size inb_S4096x512_S2048x512_0_0) (fun _ => rfl)) rfl rfl) $$ [Hk3 HO]
  · isplitr; · iexact HC
    isplitl [Hk3]; · iexact Hk3
    iexact HO
  iintro ⟨Hz3, Hr, HO⟩
  ihave Hr := (pt_halves c wr (R4 0 2048) fullShare (W m (right c))).1 $$ Hr
  icases Hr with ⟨HrL, HrR1⟩
  ihave Hwr := (pt_cut c wr Finset.univ (R4 0 2048) (R4 2048 4096) sR (W m (right c)) (R4_halves) (R4_disj _ _ _)).2 $$ [HrR1 HrR]
  · isplitl [HrR1]; · iexact HrR1
    iexact HrR
  iapply (ld c (Memref.whole x8) Finset.univ fullShare (X m c) (X m c) (Finset.subset_univ _) (Memref.readAt_unit_zero (Elt F) x8 hz _ _)) $$ Hx; iintro Hx
  iapply (ld c (Memref.whole wr) Finset.univ sR (W m (right c)) (W m (right c)) (Finset.subset_univ _) (Memref.readAt_unit_zero (Elt F) wr hz _ _)) $$ Hwr; iintro Hwr
  icases Hbr with ⟨%fb, Hbr⟩
  iapply (ld c (Memref.whole br) Finset.univ fullShare (fb) (fb) (Finset.subset_univ _) (Memref.readAt_unit_zero (Elt F) br hz _ _)) $$ Hbr; iintro Hbr
  iapply (st c (Memref.whole br) (r := Rect.unit ![0, 0] ![1024, 512] inb_S1024x512_S1024x512_0_0) (w := k0_pay7 (sc m c) (X m c) (W m (right c))) Finset.univ fb (brF m c) (Finset.subset_univ _)
    (fun i _ => congrFun (Memref.write_access_unit_zero_univ (Elt F) br hz _ _ _) i)) $$ Hbr; iintro Hbr
  iapply (cp m K c _ 9 [10, 11] (dev12_eq c) rfl rfl (src := Memref.whole br) (dm := Memref.whole rbl) (Finset.univ) (Finset.univ)
      (View.set_whole br) (View.set_whole rbl) fullShare (brF m c) (brF m c) iprop(emp) rfl (fun _ => rfl) (Entails.rfl) (by rw [show dmaPay m (dst c 9) (12 + (9 : Fin 12).val + 5) = pt (right c) rbl Finset.univ fullShare (brF m (left (right c))) from rfl, left_right]; exact Laws.sep_emp.1)) $$ [Hbr Hrbl HO Ht9]
  · isplitr; · iexact HC
    isplitl [Hbr]; · iexact Hbr
    isplitl [Hrbl]
    · isplitl [Hrbl]; · iexact Hrbl
      iempintro
    isplitl [HO]; · iexact HO
    iexact Ht9
  iintro ⟨Hc9, HO⟩
  iapply (aw m K c (rcv 4) [10, 11] (fun j hj => by rw [lv_rcv]; revert j; decide) (iprop(pt c wo (R4 0 1024) fullShare (W m (opp c)) ∗ ptE (opp c) rbo Finset.univ)) (Entails.of_eq rfl) (dm := (Memref.whole wo).slice (Rect.unit (s := S4096x512) ![0, 0] S1024x512.size inb_S4096x512_S1024x512_0_0) (fun _ => rfl)) rfl rfl) $$ [Hk4 HO]
  · isplitr; · iexact HC
    isplitl [Hk4]; · iexact Hk4
    iexact HO
  iintro ⟨Hz4, Hp, HO⟩
  icases Hp with ⟨Ho0, Hrbo⟩
  iapply (aw m K c (rcv 6) [10, 11] (fun j hj => by rw [lv_rcv]; revert j; decide) (pt c wo (R4 2048 3072) fullShare (W m (opp c))) (Entails.of_eq rfl) (dm := (Memref.whole wo).slice (Rect.unit (s := S4096x512) ![2048, 0] S1024x512.size inb_S4096x512_S1024x512_2048_0) (fun _ => rfl)) rfl rfl) $$ [Hk6 HO]
  · isplitr; · iexact HC
    isplitl [Hk6]; · iexact Hk6
    iexact HO
  iintro ⟨Hz6, Ho2, HO⟩
  iapply (Entails.of_eq (wp_ret ..).symm); imodintro
  isplitl [HO]; · iexact HO
  isplitl [Hc9]; · iexact Hc9
  isplitl [Hz3]; · iexact Hz3
  isplitl [Hz4]; · iexact Hz4
  isplitl [Hz6]; · iexact Hz6
  isplitl [Hx]; · iexact Hx
  isplitl [Hwr]; · iexact Hwr
  isplitl [HrL]; · iexact HrL
  isplitl [Ho0]; · iexact Ho0
  isplitl [Ho2]; · iexact Ho2
  iexact Hrbo

end Cert.KernelIdeal.RingMM

end
-- ==== Proof.Part7.lean ====
/-
Half of the contraction for the device opposite.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- Half of the contraction for the device opposite; then the other two quarters of its columns have landed. -/
theorem part7_spec (K : Dev nD × Cix → ℕ) (c : Dev nD) (v5 v7 : BitVec 32) :
    iprop(Ctx m K ∗ ow c (owedL c [10, 11]) ∗ wtok c (rcv 5) ∗ wtok c (rcv 7) ∗ pt c x8 Finset.univ fullShare (X m c) ∗ pt c wo (R4 0 1024) fullShare (W m (opp c)) ∗ pt c wo (R4 2048 3072) fullShare (W m (opp c)) ∗ ptE (c) acc Finset.univ)
      ⊢ wpc c (k0_part7 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 v5 v7) (fun r => iprop(⌜r = ⟨ldAcc rT (accF m c), ldX rX1t (X m c)⟩⌝ ∗ ow c (owedL c [10, 11]) ∗ semVal (xcell c (rcv 5)) 0 ∗ semVal (xcell c (rcv 7)) 0 ∗ pt c x8 Finset.univ fullShare (X m c) ∗ pt c wo (R4 0 1024) fullShare (W m (opp c)) ∗ pt c wo (R4 1024 2048) fullShare (W m (opp c)) ∗ pt c wo (R4 2048 3072) fullShare (W m (opp c)) ∗ pt c wo (R4 3072 4096) fullShare (W m (opp c)) ∗ pt c acc Finset.univ fullShare (accF m c))) := by
  rw [k0_part7_eq_skeleton]; unfold k0_part7_skel
  simp only [semSignalWord, semWaitWord, Prog.lift, Prog.bind_op, Prog.bind_ret, Prog.pure_eq_ret]
  iintro ⟨#HC, HO, Hk5, Hk7, Hx, Ho0, Ho2, Ha⟩
  iapply (ld c (Memref.whole x8) (r := (rX0).toLoadRect) (Finset.univ) fullShare (X m c) (ldX rX0 (X m c)) (Finset.subset_univ _) rfl) $$ Hx; iintro Hx
  iapply (ld c (Memref.whole wo) (r := (rQ0).toLoadRect) ((R4 0 1024)) fullShare (W m (opp c)) (ldWo rQ0 (W m (opp c))) (ld_sub wo (rQ0) _ (rows4 0 1024 _)) rfl) $$ Ho0; iintro Ho0
  iapply (ld c (Memref.whole x8) (r := (rX2).toLoadRect) (Finset.univ) fullShare (X m c) (ldX rX2 (X m c)) (Finset.subset_univ _) rfl) $$ Hx; iintro Hx
  iapply (ld c (Memref.whole wo) (r := (rQ2).toLoadRect) ((R4 2048 3072)) fullShare (W m (opp c)) (ldWo rQ2 (W m (opp c))) (ld_sub wo (rQ2) _ (rows4 2048 1024 _)) rfl) $$ Ho2; iintro Ho2
  icases Ha with ⟨%fa, Ha⟩
  iapply (ld c (Memref.whole acc) Finset.univ fullShare (fa) (fa) (Finset.subset_univ _) (Memref.readAt_unit_zero (Elt F) acc hz _ _)) $$ Ha; iintro Ha
  iapply (st c (Memref.whole acc) (r := Rect.unit ![0, 0] ![1024, 512] inb_S1024x512_S1024x512_0_0) (w := k0_pay8 (ldX rX0 (X m c)) (ldWo rQ0 (W m (opp c))) (ldX rX2 (X m c)) (ldWo rQ2 (W m (opp c)))) Finset.univ fa (accF m c) (Finset.subset_univ _)
    (fun i _ => congrFun (Memref.write_access_unit_zero_univ (Elt F) acc hz _ _ _) i)) $$ Ha; iintro Ha
  iapply (aw m K c (rcv 5) [10, 11] (fun j hj => by rw [lv_rcv]; revert j; decide) (pt c wo (R4 1024 2048) fullShare (W m (opp c))) (Entails.of_eq rfl) (dm := (Memref.whole wo).slice (Rect.unit (s := S4096x512) ![1024, 0] S1024x512.size inb_S4096x512_S1024x512_1024_0) (fun _ => rfl)) rfl rfl) $$ [Hk5 HO]
  · isplitr; · iexact HC
    isplitl [Hk5]; · iexact Hk5
    iexact HO
  iintro ⟨Hz5, Ho1, HO⟩
  iapply (aw m K c (rcv 7) [10, 11] (fun j hj => by rw [lv_rcv]; revert j; decide) (pt c wo (R4 3072 4096) fullShare (W m (opp c))) (Entails.of_eq rfl) (dm := (Memref.whole wo).slice (Rect.unit (s := S4096x512) ![3072, 0] S1024x512.size inb_S4096x512_S1024x512_3072_0) (fun _ => rfl)) rfl rfl) $$ [Hk7 HO]
  · isplitr; · iexact HC
    isplitl [Hk7]; · iexact Hk7
    iexact HO
  iintro ⟨Hz7, Ho3, HO⟩
  iapply (ld c (Memref.whole acc) (r := (rT).toLoadRect) (Finset.univ) fullShare (accF m c) (ldAcc rT (accF m c)) (Finset.subset_univ _) rfl) $$ Ha; iintro Ha
  iapply (ld c (Memref.whole x8) (r := (rX1t).toLoadRect) (Finset.univ) fullShare (X m c) (ldX rX1t (X m c)) (Finset.subset_univ _) rfl) $$ Hx; iintro Hx
  iapply (Entails.of_eq (wp_ret ..).symm); imodintro
  isplitr; · ipureintro; rfl
  isplitl [HO]; · iexact HO
  isplitl [Hz5]; · iexact Hz5
  isplitl [Hz7]; · iexact Hz7
  isplitl [Hx]; · iexact Hx
  isplitl [Ho0]; · iexact Ho0
  isplitl [Ho1]; · iexact Ho1
  isplitl [Ho2]; · iexact Ho2
  isplitl [Ho3]; · iexact Ho3
  iexact Ha

end Cert.KernelIdeal.RingMM

end
-- ==== Proof.Part8.lean ====
/-
The upper half of the block for the device opposite.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The upper half of the block for the device opposite, completed, rounded and sent; the lower half completed. -/
theorem part8_spec (K : Dev nD × Cix → ℕ) (c : Dev nD) (v9 : BitVec 32) :
    iprop(Ctx m K ∗ ow c (owedL c [10, 11]) ∗ stok c 10 ∗ pt c x8 Finset.univ fullShare (X m c) ∗ pt c wo (R4 1024 2048) fullShare (W m (opp c)) ∗ pt c wo (R4 3072 4096) fullShare (W m (opp c)) ∗ pt c acc Finset.univ fullShare (accF m c) ∗ ptE (c) bo Finset.univ ∗ ptE (opp c) rbo (R1 0 512))
      ⊢ wpc c (k0_part8 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 c v9 (sc m c) (ldAcc rT (accF m c)) (ldX rX1t (X m c))) (fun r => iprop(⌜r = k0_pay10 (ldAcc rB (accF m c)) (ldX rX1b (X m c)) (ldWo rQ1 (W m (opp c))) (ldX rX3b (X m c)) (ldWo rQ3 (W m (opp c)))⌝ ∗ ow c (owedL c [11]) ∗ sent c 10 ∗ ptE (c) bo (R1 512 1024) ∗ pt c x8 Finset.univ fullShare (X m c) ∗ pt c wo (R4 1024 2048) fullShare (W m (opp c)) ∗ pt c wo (R4 3072 4096) fullShare (W m (opp c)) ∗ pt c acc Finset.univ fullShare (accF m c))) := by
  rw [k0_part8_eq_skeleton]; unfold k0_part8_skel
  simp only [semSignalWord, semWaitWord, Prog.lift, Prog.bind_op, Prog.bind_ret, Prog.pure_eq_ret]
  iintro ⟨#HC, HO, Ht10, Hx, Ho1, Ho3, Ha, Hb, Hrbo⟩
  iapply (ld c (Memref.whole wo) (r := (rQ1).toLoadRect) ((R4 1024 2048)) fullShare (W m (opp c)) (ldWo rQ1 (W m (opp c))) (ld_sub wo (rQ1) _ (rows4 1024 1024 _)) rfl) $$ Ho1; iintro Ho1
  iapply (ld c (Memref.whole x8) (r := (rX3t).toLoadRect) (Finset.univ) fullShare (X m c) (ldX rX3t (X m c)) (Finset.subset_univ _) rfl) $$ Hx; iintro Hx
  iapply (ld c (Memref.whole wo) (r := (rQ3).toLoadRect) ((R4 3072 4096)) fullShare (W m (opp c)) (ldWo rQ3 (W m (opp c))) (ld_sub wo (rQ3) _ (rows4 3072 1024 _)) rfl) $$ Ho3; iintro Ho3
  ihave Hb := (ptE_cut c bo Finset.univ (R1 0 512) (R1 512 1024) R1_halves (R1_disj _ _ _)) $$ Hb
  icases Hb with ⟨⟨%fb, Hb⟩, Hb2⟩
  iapply (ld c (Memref.whole bo) (r := (rT).toLoadRect) (R1 0 512) fullShare (fb) (_) (ld_sub bo (rT) _ (rows1 0 512 _)) rfl) $$ Hb; iintro Hb
  iapply (st c (Memref.whole bo) (r := rT) (w := boLo m c) (R1 0 512) fb (boF m c) (st_sub bo rT _ (rows1 0 512 _))
    (fun i hi => boF_lo m c fb i hi)) $$ Hb; iintro Hb
  iapply (cp m K c _ 10 [11] (dev13_eq c) rfl rfl (src := (Memref.whole bo).slice (Rect.unit (s := S1024x512) ![0, 0] S512x512.size inb_S1024x512_S512x512_0_0) (fun _ => rfl)) (dm := (Memref.whole rbo).slice (Rect.unit (s := S1024x512) ![0, 0] S512x512.size inb_S1024x512_S512x512_0_0) (fun _ => rfl)) (R1 0 512) (R1 0 512)
      ((set_slice4 bo _ _).trans (rows1 0 512 _)) ((set_slice4 rbo _ _).trans (rows1 0 512 _)) fullShare (boF m c) (boF m c) iprop(emp) rfl (fun _ => rfl) (Entails.rfl) (by rw [show dmaPay m (dst c 10) (12 + (10 : Fin 12).val + 5) = pt (opp c) rbo (R1 0 512) fullShare (boF m (opp (opp c))) from rfl, opp_opp]; exact Laws.sep_emp.1)) $$ [Hb Hrbo HO Ht10]
  · isplitr; · iexact HC
    isplitl [Hb]; · iexact Hb
    isplitl [Hrbo]
    · isplitl [Hrbo]; · iexact Hrbo
      iempintro
    isplitl [HO]; · iexact HO
    iexact Ht10
  iintro ⟨Hc10, HO⟩
  iapply (ld c (Memref.whole acc) (r := (rB).toLoadRect) (Finset.univ) fullShare (accF m c) (ldAcc rB (accF m c)) (Finset.subset_univ _) rfl) $$ Ha; iintro Ha
  iapply (ld c (Memref.whole x8) (r := (rX1b).toLoadRect) (Finset.univ) fullShare (X m c) (ldX rX1b (X m c)) (Finset.subset_univ _) rfl) $$ Hx; iintro Hx
  iapply (ld c (Memref.whole wo) (r := (rQ1).toLoadRect) ((R4 1024 2048)) fullShare (W m (opp c)) (ldWo rQ1 (W m (opp c))) (ld_sub wo (rQ1) _ (rows4 1024 1024 _)) rfl) $$ Ho1; iintro Ho1
  iapply (ld c (Memref.whole x8) (r := (rX3b).toLoadRect) (Finset.univ) fullShare (X m c) (ldX rX3b (X m c)) (Finset.subset_univ _) rfl) $$ Hx; iintro Hx
  iapply (ld c (Memref.whole wo) (r := (rQ3).toLoadRect) ((R4 3072 4096)) fullShare (W m (opp c)) (ldWo rQ3 (W m (opp c))) (ld_sub wo (rQ3) _ (rows4 3072 1024 _)) rfl) $$ Ho3; iintro Ho3
  iapply (Entails.of_eq (wp_ret ..).symm); imodintro
  isplitr; · ipureintro; rfl
  isplitl [HO]; · iexact HO
  isplitl [Hc10]; · iexact Hc10
  isplitl [Hb2]; · iexact Hb2
  isplitl [Hx]; · iexact Hx
  isplitl [Ho1]; · iexact Ho1
  isplitl [Ho3]; · iexact Ho3
  iexact Ha

end Cert.KernelIdeal.RingMM

end
-- ==== Proof.Part9.lean ====
/-
The lower half of the block for the device opposite; the neighbours' blocks arrive.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The lower half of the block for the device opposite is sent; the left neighbour's block is stored, the right one's has landed. -/
theorem part9_spec (K : Dev nD × Cix → ℕ) (c : Dev nD) (v5 v7 v9 : BitVec 32) (f : Vec F S4096x512 .f32) :
    iprop(Ctx m K ∗ ow c (owedL c [11]) ∗ stok c 11 ∗ wtok c (rcv 9) ∗ wtok c (rcv 8) ∗ ptE (c) bo (R1 512 1024) ∗ ptE (opp c) rbo (R1 512 1024) ∗ pt c bOut Finset.univ fullShare (out1 m c f))
      ⊢ wpc c (k0_part9 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 c v5 v7 v9 (sc m c) (k0_pay10 (ldAcc rB (accF m c)) (ldX rX1b (X m c)) (ldWo rQ1 (W m (opp c))) (ldX rX3b (X m c)) (ldWo rQ3 (W m (opp c))))) (fun r => iprop(⌜r.1 = k0_pay13 (blF m (right c))⌝ ∗ ow c (owedL c []) ∗ sent c 11 ∗ semVal (xcell c (rcv 9)) 0 ∗ semVal (xcell c (rcv 8)) 0 ∗ pt c rbl Finset.univ fullShare (brF m (left c)) ∗ pt c rbr Finset.univ fullShare (blF m (right c)) ∗ pt c bOut Finset.univ fullShare (out2 m c f))) := by
  rw [k0_part9_eq_skeleton]; unfold k0_part9_skel
  simp only [semSignalWord, semWaitWord, Prog.lift, Prog.bind_op, Prog.bind_ret, Prog.pure_eq_ret]
  iintro ⟨#HC, HO, Ht11, Hk9, Hk8, Hb, Hrbo, Ho⟩
  icases Hb with ⟨%fb, Hb⟩
  iapply (ld c (Memref.whole bo) (r := (rB).toLoadRect) (R1 512 1024) fullShare (fb) (_) (ld_sub bo (rB) _ (rows1 512 512 _)) rfl) $$ Hb; iintro Hb
  iapply (st c (Memref.whole bo) (r := rB) (w := boHi m c) (R1 512 1024) fb (boF m c) (st_sub bo rB _ (rows1 512 512 _))
    (fun i hi => boF_hi m c fb i hi)) $$ Hb; iintro Hb
  iapply (cp m K c _ 11 [] (dev14_eq c) rfl rfl (src := (Memref.whole bo).slice (Rect.unit (s := S1024x512) ![512, 0] S512x512.size inb_S1024x512_S512x512_512_0) (fun _ => rfl)) (dm := (Memref.whole rbo).slice (Rect.unit (s := S1024x512) ![512, 0] S512x512.size inb_S1024x512_S512x512_512_0) (fun _ => rfl)) (R1 512 1024) (R1 512 1024)
      ((set_slice4 bo _ _).trans (rows1 512 512 _)) ((set_slice4 rbo _ _).trans (rows1 512 512 _)) fullShare (boF m c) (boF m c) iprop(emp) rfl (fun _ => rfl) (Entails.rfl) (by rw [show dmaPay m (dst c 11) (12 + (11 : Fin 12).val + 5) = pt (opp c) rbo (R1 512 1024) fullShare (boF m (opp (opp c))) from rfl, opp_opp]; exact Laws.sep_emp.1)) $$ [Hb Hrbo HO Ht11]
  · isplitr; · iexact HC
    isplitl [Hb]; · iexact Hb
    isplitl [Hrbo]
    · isplitl [Hrbo]; · iexact Hrbo
      iempintro
    isplitl [HO]; · iexact HO
    iexact Ht11
  iintro ⟨Hc11, HO⟩
  iapply (aw m K c (rcv 9) [] (fun j hj => absurd hj List.not_mem_nil) (pt c rbl Finset.univ fullShare (brF m (left c))) (Entails.of_eq rfl) (dm := Memref.whole rbl) rfl rfl) $$ [Hk9 HO]
  · isplitr; · iexact HC
    isplitl [Hk9]; · iexact Hk9
    iexact HO
  iintro ⟨Hz9, Hl, HO⟩
  iapply (ld c (Memref.whole rbl) Finset.univ fullShare (brF m (left c)) (brF m (left c)) (Finset.subset_univ _) (Memref.readAt_unit_zero (Elt F) rbl hz _ _)) $$ Hl; iintro Hl
  iapply (ld c (Memref.whole bOut) (r := (rO2 c).toLoadRect) (Finset.univ) fullShare (out1 m c f) (_) (Finset.subset_univ _) rfl) $$ Ho; iintro Ho
  iapply (st c (Memref.whole bOut) (r := rO2 c) (w := k0_pay12 (brF m (left c))) Finset.univ (out1 m c f) (out2 m c f) (Finset.subset_univ _)
    (fun i _ => rfl)) $$ Ho; iintro Ho
  iapply (aw m K c (rcv 8) [] (fun j hj => absurd hj List.not_mem_nil) (pt c rbr Finset.univ fullShare (blF m (right c))) (Entails.of_eq rfl) (dm := Memref.whole rbr) rfl rfl) $$ [Hk8 HO]
  · isplitr; · iexact HC
    isplitl [Hk8]; · iexact Hk8
    iexact HO
  iintro ⟨Hz8, Hr, HO⟩
  iapply (ld c (Memref.whole rbr) Finset.univ fullShare (blF m (right c)) (blF m (right c)) (Finset.subset_univ _) (Memref.readAt_unit_zero (Elt F) rbr hz _ _)) $$ Hr; iintro Hr
  iapply (Entails.of_eq (wp_ret ..).symm); imodintro
  isplitr; · ipureintro; rfl
  isplitl [HO]; · iexact HO
  isplitl [Hc11]; · iexact Hc11
  isplitl [Hz9]; · iexact Hz9
  isplitl [Hz8]; · iexact Hz8
  isplitl [Hl]; · iexact Hl
  isplitl [Hr]; · iexact Hr
  iexact Ho

end Cert.KernelIdeal.RingMM

end
-- ==== Proof.Part10.lean ====
/-
The right neighbour's block and the two halves from the device opposite are stored.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The right neighbour's block and the two halves from the device opposite are stored. -/
theorem part10_spec (K : Dev nD × Cix → ℕ) (c : Dev nD) (v9 w : BitVec 32) (f : Vec F S4096x512 .f32) :
    iprop(Ctx m K ∗ ow c (owedL c []) ∗ wtok c (rcv 10) ∗ wtok c (rcv 11) ∗ pt c bOut Finset.univ fullShare (out2 m c f))
      ⊢ wpc c (k0_part10 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13 c v9 (k0_pay13 (blF m (right c))) w) (fun r => iprop(ow c (owedL c []) ∗ semVal (xcell c (rcv 10)) 0 ∗ semVal (xcell c (rcv 11)) 0 ∗ pt c rbo (R1 0 512) fullShare (boF m (opp c)) ∗ pt c rbo (R1 512 1024) fullShare (boF m (opp c)) ∗ pt c bOut Finset.univ fullShare (out5 m c f))) := by
  rw [k0_part10_eq_skeleton]; unfold k0_part10_skel
  simp only [semSignalWord, semWaitWord, Prog.lift, Prog.bind_op, Prog.bind_ret, Prog.pure_eq_ret]
  iintro ⟨#HC, HO, Hk10, Hk11, Ho⟩
  iapply (ld c (Memref.whole bOut) (r := (rO3 c).toLoadRect) (Finset.univ) fullShare (out2 m c f) (_) (Finset.subset_univ _) rfl) $$ Ho; iintro Ho
  iapply (st c (Memref.whole bOut) (r := rO3 c) (w := k0_pay13 (blF m (right c))) Finset.univ (out2 m c f) (out3 m c f) (Finset.subset_univ _)
    (fun i _ => rfl)) $$ Ho; iintro Ho
  iapply (aw m K c (rcv 10) [] (fun j hj => absurd hj List.not_mem_nil) (pt c rbo (R1 0 512) fullShare (boF m (opp c))) (Entails.of_eq rfl) (dm := (Memref.whole rbo).slice (Rect.unit (s := S1024x512) ![0, 0] S512x512.size inb_S1024x512_S512x512_0_0) (fun _ => rfl)) rfl rfl) $$ [Hk10 HO]
  · isplitr; · iexact HC
    isplitl [Hk10]; · iexact Hk10
    iexact HO
  iintro ⟨Hz10, H1, HO⟩
  iapply (ld c (Memref.whole rbo) (r := (rT).toLoadRect) (R1 0 512) fullShare (boF m (opp c)) (ldRbo rT (boF m (opp c))) (ld_sub rbo (rT) _ (rows1 0 512 _)) rfl) $$ H1; iintro H1
  iapply (ld c (Memref.whole bOut) (r := (rO4 c).toLoadRect) (Finset.univ) fullShare (out3 m c f) (_) (Finset.subset_univ _) rfl) $$ Ho; iintro Ho
  iapply (st c (Memref.whole bOut) (r := rO4 c) (w := k0_pay14 (ldRbo rT (boF m (opp c)))) Finset.univ (out3 m c f) (out4 m c f) (Finset.subset_univ _)
    (fun i _ => rfl)) $$ Ho; iintro Ho
  iapply (aw m K c (rcv 11) [] (fun j hj => absurd hj List.not_mem_nil) (pt c rbo (R1 512 1024) fullShare (boF m (opp c))) (Entails.of_eq rfl) (dm := (Memref.whole rbo).slice (Rect.unit (s := S1024x512) ![512, 0] S512x512.size inb_S1024x512_S512x512_512_0) (fun _ => rfl)) rfl rfl) $$ [Hk11 HO]
  · isplitr; · iexact HC
    isplitl [Hk11]; · iexact Hk11
    iexact HO
  iintro ⟨Hz11, H2, HO⟩
  iapply (ld c (Memref.whole rbo) (r := (rB).toLoadRect) (R1 512 1024) fullShare (boF m (opp c)) (ldRbo rB (boF m (opp c))) (ld_sub rbo (rB) _ (rows1 512 512 _)) rfl) $$ H2; iintro H2
  iapply (ld c (Memref.whole bOut) (r := (rO5 c).toLoadRect) (Finset.univ) fullShare (out4 m c f) (_) (Finset.subset_univ _) rfl) $$ Ho; iintro Ho
  iapply (st c (Memref.whole bOut) (r := rO5 c) (w := k0_pay15 (ldRbo rB (boF m (opp c)))) Finset.univ (out4 m c f) (out5 m c f) (Finset.subset_univ _)
    (fun i _ => rfl)) $$ Ho; iintro Ho
  iapply (Entails.of_eq (wp_ret ..).symm); imodintro
  isplitl [HO]; · iexact HO
  isplitl [Hz10]; · iexact Hz10
  isplitl [Hz11]; · iexact Hz11
  isplitl [H1]; · iexact H1
  isplitl [H2]; · iexact H2
  iexact Ho

end Cert.KernelIdeal.RingMM

end
-- ==== Proof.Part11.lean ====
/-
The first five copies have left: what they were lent comes back.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The first five copies have left: what they were lent comes back. -/
theorem part11_spec (K : Dev nD × Cix → ℕ) (c : Dev nD) :
    iprop(Ctx m K ∗ ow c (owedL c []) ∗ wtok c (snd 0) ∗ wtok c (snd 1) ∗ wtok c (snd 2) ∗ wtok c (snd 3) ∗ wtok c (snd 4))
      ⊢ wpc c (k0_part11 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13) (fun r => iprop(ow c (owedL c []) ∗ semVal (xcell c (snd 0)) 0 ∗ semVal (xcell c (snd 1)) 0 ∗ semVal (xcell c (snd 2)) 0 ∗ semVal (xcell c (snd 3)) 0 ∗ semVal (xcell c (snd 4)) 0 ∗ pt c w8 (R4 0 2048) sLL (W m c) ∗ pt c w8 (R4 2048 4096) sLL (W m c) ∗ pt c w8 (R4 2048 4096) sLR (W m c) ∗ pt c w8 (R4 0 2048) sLR (W m c) ∗ pt c wl (R4 0 1024) sL (W m (left c)))) := by
  rw [k0_part11_eq_skeleton]; unfold k0_part11_skel
  simp only [semSignalWord, semWaitWord, Prog.lift, Prog.bind_op, Prog.bind_ret, Prog.pure_eq_ret]
  iintro ⟨#HC, HO, Hk0, Hk1, Hk2, Hk3, Hk4⟩
  iapply (aw m K c (snd 0) [] (fun j hj => absurd hj List.not_mem_nil) (pt c w8 (R4 0 2048) sLL (W m c)) (Entails.of_eq rfl) (dm := (Memref.whole w8).slice (Rect.unit (s := S4096x512) ![0, 0] S2048x512.size inb_S4096x512_S2048x512_0_0) (fun _ => rfl)) rfl rfl) $$ [Hk0 HO]
  · isplitr; · iexact HC
    isplitl [Hk0]; · iexact Hk0
    iexact HO
  iintro ⟨Hz0, Hp0, HO⟩
  iapply (aw m K c (snd 1) [] (fun j hj => absurd hj List.not_mem_nil) (pt c w8 (R4 2048 4096) sLL (W m c)) (Entails.of_eq rfl) (dm := (Memref.whole w8).slice (Rect.unit (s := S4096x512) ![2048, 0] S2048x512.size inb_S4096x512_S2048x512_2048_0) (fun _ => rfl)) rfl rfl) $$ [Hk1 HO]
  · isplitr; · iexact HC
    isplitl [Hk1]; · iexact Hk1
    iexact HO
  iintro ⟨Hz1, Hp1, HO⟩
  iapply (aw m K c (snd 2) [] (fun j hj => absurd hj List.not_mem_nil) (pt c w8 (R4 2048 4096) sLR (W m c)) (Entails.of_eq rfl) (dm := (Memref.whole w8).slice (Rect.unit (s := S4096x512) ![2048, 0] S2048x512.size inb_S4096x512_S2048x512_2048_0) (fun _ => rfl)) rfl rfl) $$ [Hk2 HO]
  · isplitr; · iexact HC
    isplitl [Hk2]; · iexact Hk2
    iexact HO
  iintro ⟨Hz2, Hp2, HO⟩
  iapply (aw m K c (snd 3) [] (fun j hj => absurd hj List.not_mem_nil) (pt c w8 (R4 0 2048) sLR (W m c)) (Entails.of_eq rfl) (dm := (Memref.whole w8).slice (Rect.unit (s := S4096x512) ![0, 0] S2048x512.size inb_S4096x512_S2048x512_0_0) (fun _ => rfl)) rfl rfl) $$ [Hk3 HO]
  · isplitr; · iexact HC
    isplitl [Hk3]; · iexact Hk3
    iexact HO
  iintro ⟨Hz3, Hp3, HO⟩
  iapply (aw m K c (snd 4) [] (fun j hj => absurd hj List.not_mem_nil) (pt c wl (R4 0 1024) sL (W m (left c))) (Entails.of_eq rfl) (dm := (Memref.whole wl).slice (Rect.unit (s := S4096x512) ![0, 0] S1024x512.size inb_S4096x512_S1024x512_0_0) (fun _ => rfl)) rfl rfl) $$ [Hk4 HO]
  · isplitr; · iexact HC
    isplitl [Hk4]; · iexact Hk4
    iexact HO
  iintro ⟨Hz4, Hp4, HO⟩
  iapply (Entails.of_eq (wp_ret ..).symm); imodintro
  isplitl [HO]; · iexact HO
  isplitl [Hz0]; · iexact Hz0
  isplitl [Hz1]; · iexact Hz1
  isplitl [Hz2]; · iexact Hz2
  isplitl [Hz3]; · iexact Hz3
  isplitl [Hz4]; · iexact Hz4
  isplitl [Hp0]; · iexact Hp0
  isplitl [Hp1]; · iexact Hp1
  isplitl [Hp2]; · iexact Hp2
  isplitl [Hp3]; · iexact Hp3
  iexact Hp4

end Cert.KernelIdeal.RingMM

end
-- ==== Proof.Part12.lean ====
/-
The next six copies have left: what they were lent comes back.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The next six copies have left: what they were lent comes back. -/
theorem part12_spec (K : Dev nD × Cix → ℕ) (c : Dev nD) :
    iprop(Ctx m K ∗ ow c (owedL c []) ∗ wtok c (snd 5) ∗ wtok c (snd 6) ∗ wtok c (snd 7) ∗ wtok c (snd 8) ∗ wtok c (snd 9) ∗ wtok c (snd 10))
      ⊢ wpc c (k0_part12 (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13) (fun r => iprop(ow c (owedL c []) ∗ semVal (xcell c (snd 5)) 0 ∗ semVal (xcell c (snd 6)) 0 ∗ semVal (xcell c (snd 7)) 0 ∗ semVal (xcell c (snd 8)) 0 ∗ semVal (xcell c (snd 9)) 0 ∗ semVal (xcell c (snd 10)) 0 ∗ pt c wl (R4 1024 2048) sL (W m (left c)) ∗ pt c wr (R4 2048 3072) sL (W m (right c)) ∗ pt c wr (R4 3072 4096) sL (W m (right c)) ∗ pt c bl Finset.univ fullShare (blF m c) ∗ pt c br Finset.univ fullShare (brF m c) ∗ pt c bo (R1 0 512) fullShare (boF m c))) := by
  rw [k0_part12_eq_skeleton]; unfold k0_part12_skel
  simp only [semSignalWord, semWaitWord, Prog.lift, Prog.bind_op, Prog.bind_ret, Prog.pure_eq_ret]
  iintro ⟨#HC, HO, Hk5, Hk6, Hk7, Hk8, Hk9, Hk10⟩
  iapply (aw m K c (snd 5) [] (fun j hj => absurd hj List.not_mem_nil) (pt c wl (R4 1024 2048) sL (W m (left c))) (Entails.of_eq rfl) (dm := (Memref.whole wl).slice (Rect.unit (s := S4096x512) ![1024, 0] S1024x512.size inb_S4096x512_S1024x512_1024_0) (fun _ => rfl)) rfl rfl) $$ [Hk5 HO]
  · isplitr; · iexact HC
    isplitl [Hk5]; · iexact Hk5
    iexact HO
  iintro ⟨Hz5, Hp5, HO⟩
  iapply (aw m K c (snd 6) [] (fun j hj => absurd hj List.not_mem_nil) (pt c wr (R4 2048 3072) sL (W m (right c))) (Entails.of_eq rfl) (dm := (Memref.whole wr).slice (Rect.unit (s := S4096x512) ![2048, 0] S1024x512.size inb_S4096x512_S1024x512_2048_0) (fun _ => rfl)) rfl rfl) $$ [Hk6 HO]
  · isplitr; · iexact HC
    isplitl [Hk6]; · iexact Hk6
    iexact HO
  iintro ⟨Hz6, Hp6, HO⟩
  iapply (aw m K c (snd 7) [] (fun j hj => absurd hj List.not_mem_nil) (pt c wr (R4 3072 4096) sL (W m (right c))) (Entails.of_eq rfl) (dm := (Memref.whole wr).slice (Rect.unit (s := S4096x512) ![3072, 0] S1024x512.size inb_S4096x512_S1024x512_3072_0) (fun _ => rfl)) rfl rfl) $$ [Hk7 HO]
  · isplitr; · iexact HC
    isplitl [Hk7]; · iexact Hk7
    iexact HO
  iintro ⟨Hz7, Hp7, HO⟩
  iapply (aw m K c (snd 8) [] (fun j hj => absurd hj List.not_mem_nil) (pt c bl Finset.univ fullShare (blF m c)) (Entails.of_eq rfl) (dm := Memref.whole bl) rfl rfl) $$ [Hk8 HO]
  · isplitr; · iexact HC
    isplitl [Hk8]; · iexact Hk8
    iexact HO
  iintro ⟨Hz8, Hp8, HO⟩
  iapply (aw m K c (snd 9) [] (fun j hj => absurd hj List.not_mem_nil) (pt c br Finset.univ fullShare (brF m c)) (Entails.of_eq rfl) (dm := Memref.whole br) rfl rfl) $$ [Hk9 HO]
  · isplitr; · iexact HC
    isplitl [Hk9]; · iexact Hk9
    iexact HO
  iintro ⟨Hz9, Hp9, HO⟩
  iapply (aw m K c (snd 10) [] (fun j hj => absurd hj List.not_mem_nil) (pt c bo (R1 0 512) fullShare (boF m c)) (Entails.of_eq rfl) (dm := (Memref.whole bo).slice (Rect.unit (s := S1024x512) ![0, 0] S512x512.size inb_S1024x512_S512x512_0_0) (fun _ => rfl)) rfl rfl) $$ [Hk10 HO]
  · isplitr; · iexact HC
    isplitl [Hk10]; · iexact Hk10
    iexact HO
  iintro ⟨Hz10, Hp10, HO⟩
  iapply (Entails.of_eq (wp_ret ..).symm); imodintro
  isplitl [HO]; · iexact HO
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hp5]; · iexact Hp5
  isplitl [Hp6]; · iexact Hp6
  isplitl [Hp7]; · iexact Hp7
  isplitl [Hp8]; · iexact Hp8
  isplitl [Hp9]; · iexact Hp9
  iexact Hp10

end Cert.KernelIdeal.RingMM

end
-- ==== Proof.Out.lean ====
/-
The result's five stores cover it.
-/
module

public import proofs.«01_k».proof.Proof.Tools

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The rows each store covers -/

theorem mem_unit4 (off : Fin 2 → ℕ) (n : ℕ) (inb : ∀ a, off a + (![n, 512] : Fin 2 → ℕ) a ≤ S4096x512.size a) (o : ℕ) (h : off = ![o, 0])
    (i : S4096x512.Idx) : i ∈ (Rect.unit (s := S4096x512) off ![n, 512] inb).set ↔ o ≤ (i 0).val ∧ (i 0).val < o + n := by
  subst h; rw [rows4, mem_R4]

abbrev vO (r : Rect S4096x512) : View sig .tc .vmem r.shape .f32 := (Memref.whole bOut : Memref sig .tc .vmem S4096x512 .f32).access r

theorem set_vO (r : Rect S4096x512) : (vO r).set = r.set := View.set_slice_whole bOut r

theorem mem_rO1 (c : Dev nD) (i : S4096x512.Idx) : i ∈ (rO1 c).set ↔ 1024 * c.val ≤ (i 0).val ∧ (i 0).val < 1024 * c.val + 1024 :=
  mem_unit4 _ 1024 _ _ (k0_off1_eq c) i
theorem mem_rO2 (c : Dev nD) (i : S4096x512.Idx) :
    i ∈ (rO2 c).set ↔ 1024 * ((c.val + 3) % 4) ≤ (i 0).val ∧ (i 0).val < 1024 * ((c.val + 3) % 4) + 1024 :=
  mem_unit4 _ 1024 _ _ (k0_off2_eq c) i
theorem mem_rO3 (c : Dev nD) (i : S4096x512.Idx) :
    i ∈ (rO3 c).set ↔ 1024 * ((c.val + 1) % 4) ≤ (i 0).val ∧ (i 0).val < 1024 * ((c.val + 1) % 4) + 1024 :=
  mem_unit4 _ 1024 _ _ (k0_off3_eq c) i
theorem mem_rO4 (c : Dev nD) (i : S4096x512.Idx) :
    i ∈ (rO4 c).set ↔ 1024 * ((c.val + 2) % 4) ≤ (i 0).val ∧ (i 0).val < 1024 * ((c.val + 2) % 4) + 512 :=
  mem_unit4 _ 512 _ _ (k0_off4_eq c 0) i
theorem mem_rO5 (c : Dev nD) (i : S4096x512.Idx) :
    i ∈ (rO5 c).set ↔ 1024 * ((c.val + 2) % 4) + 512 ≤ (i 0).val ∧ (i 0).val < 1024 * ((c.val + 2) % 4) + 512 + 512 :=
  mem_unit4 _ 512 _ _ (k0_off4_eq c 1) i

/-- Every row belongs to one of the five stores. -/
theorem rows_cover (c : Dev nD) (i : S4096x512.Idx) :
    i ∈ (rO1 c).set ∨ i ∈ (rO2 c).set ∨ i ∈ (rO3 c).set ∨ i ∈ (rO4 c).set ∨ i ∈ (rO5 c).set := by
  rw [mem_rO1, mem_rO2, mem_rO3, mem_rO4, mem_rO5]
  have h := (i 0).isLt
  have h4 : (i 0).val < 4096 := h
  have hc : c.val < 4 := c.isLt
  omega

theorem stOut_base (r : Rect S4096x512) (f g : Vec F S4096x512 .f32) (w : Vec F r.shape .f32) (i : S4096x512.Idx)
    (h : i ∈ r.set ∨ f i = g i) : stOut r f w i = stOut r g w i :=
  write_base (vO r) f g w i (h.imp (fun h => by rw [set_vO]; exact h) id)

theorem out1_at (c : Dev nD) (f g : Vec F S4096x512 .f32) (i : S4096x512.Idx) (h : i ∈ (rO1 c).set ∨ f i = g i) :
    out1 m c f i = out1 m c g i := by
  unfold out1; exact stOut_base (rO1 c) f g (k0_pay5 (sx m c) (sw m c) (X m c) (W m c)) i h
theorem out2_at (c : Dev nD) (f g : Vec F S4096x512 .f32) (i : S4096x512.Idx) (h : i ∈ (rO2 c).set ∨ out1 m c f i = out1 m c g i) :
    out2 m c f i = out2 m c g i := by
  unfold out2; exact stOut_base (rO2 c) (out1 m c f) (out1 m c g) (k0_pay12 (brF m (left c))) i h
theorem out3_at (c : Dev nD) (f g : Vec F S4096x512 .f32) (i : S4096x512.Idx) (h : i ∈ (rO3 c).set ∨ out2 m c f i = out2 m c g i) :
    out3 m c f i = out3 m c g i := by
  unfold out3; exact stOut_base (rO3 c) (out2 m c f) (out2 m c g) (k0_pay13 (blF m (right c))) i h
theorem out4_at (c : Dev nD) (f g : Vec F S4096x512 .f32) (i : S4096x512.Idx) (h : i ∈ (rO4 c).set ∨ out3 m c f i = out3 m c g i) :
    out4 m c f i = out4 m c g i := by
  unfold out4; exact stOut_base (rO4 c) (out3 m c f) (out3 m c g) (k0_pay14 (ldRbo rT (boF m (opp c)))) i h
theorem out5_at (c : Dev nD) (f g : Vec F S4096x512 .f32) (i : S4096x512.Idx) (h : i ∈ (rO5 c).set ∨ out4 m c f i = out4 m c g i) :
    out5 m c f i = out5 m c g i := by
  unfold out5; exact stOut_base (rO5 c) (out4 m c f) (out4 m c g) (k0_pay15 (ldRbo rB (boF m (opp c)))) i h
/-- What the result held before does not matter. -/
theorem out5_base (c : Dev nD) (f g : Vec F S4096x512 .f32) : out5 m c f = out5 m c g := funext fun i => by
  rcases rows_cover c i with h | h | h | h | h
  · exact out5_at m c f g i (.inr (out4_at m c f g i (.inr (out3_at m c f g i (.inr (out2_at m c f g i (.inr (out1_at m c f g i (.inl h)))))))))
  · exact out5_at m c f g i (.inr (out4_at m c f g i (.inr (out3_at m c f g i (.inr (out2_at m c f g i (.inl h)))))))
  · exact out5_at m c f g i (.inr (out4_at m c f g i (.inr (out3_at m c f g i (.inl h)))))
  · exact out5_at m c f g i (.inr (out4_at m c f g i (.inl h)))
  · exact out5_at m c f g i (.inl h)

/-- Device `c`'s result. -/
def outF (c : Dev nD) : Vec F S4096x512 .f32 := out5 m c (fun _ => sc m c)
theorem out5_eq (c : Dev nD) (f : Vec F S4096x512 .f32) : out5 m c f = outF m c := out5_base m c f _

/-! ## Sequencing -/

theorem then_ {α β : Type} {p : Prog (TpuEff nD τ sig (Elt F) Λ₀ .tc) α} {k : α → Prog (TpuEff nD τ sig (Elt F) Λ₀ .tc) β} (c : Dev nD)
    {Pre : sProp 𝕄} {Φ : α → sProp 𝕄} {Q : β → sProp 𝕄} (h : Pre ⊢ wpc c p Φ) :
    Pre ⊢ iprop((∀ r, Φ r -∗ wpc c (k r) Q) -∗ wpc c (p >>= k) Q) := by
  rw [show wpc c (p >>= k) Q = wpc c p (fun a => wpc c (k a) Q) from wp_bind _ _ _ p k Q]
  exact h.trans (wp_wand _ _ _)

end Cert.KernelIdeal.RingMM

end
-- ==== Proof.Body.lean ====
/-
One device's run of the body, part after part.
-/
module

public import proofs.«01_k».proof.Proof.Part1
public import proofs.«01_k».proof.Proof.Part2
public import proofs.«01_k».proof.Proof.Part3
public import proofs.«01_k».proof.Proof.Part4
public import proofs.«01_k».proof.Proof.Part5
public import proofs.«01_k».proof.Proof.Part6
public import proofs.«01_k».proof.Proof.Part7
public import proofs.«01_k».proof.Proof.Part8
public import proofs.«01_k».proof.Proof.Part9
public import proofs.«01_k».proof.Proof.Part10
public import proofs.«01_k».proof.Proof.Part11
public import proofs.«01_k».proof.Proof.Part12
public import proofs.«01_k».proof.Proof.Out

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem b12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The twelve scratch buffers, at contents nobody knows. -/
def scr (c : Dev nD) : sProp 𝕄 :=
  iprop(ptE c x8 Finset.univ ∗ ptE c w8 Finset.univ ∗ ptE c wl Finset.univ ∗ ptE c wr Finset.univ ∗ ptE c wo Finset.univ ∗ ptE c bl Finset.univ
    ∗ ptE c br Finset.univ ∗ ptE c bo Finset.univ ∗ ptE c rbl Finset.univ ∗ ptE c rbr Finset.univ ∗ ptE c rbo Finset.univ ∗ ptE c acc Finset.univ)
/-- The staged inputs. -/
def ins (c : Dev nD) : sProp 𝕄 :=
  iprop(pt c bX Finset.univ fullShare (xin m c) ∗ pt c bW Finset.univ fullShare (win m c) ∗ pt c bSx Finset.univ fullShare (sxin m c)
    ∗ pt c bSw Finset.univ fullShare (swin m c))
/-- What only device `c` holds of the protocol: its two barrier duties, its copies' duties, its standing at its own semaphores, and the
    credit its barrier and its receive semaphores are to take. -/
def lin (c : Dev nD) : sProp 𝕄 :=
  iprop(dutyTok ER (barCell (left c)) 0 true ∗ dutyTok ER (barCell (right c)) 0 false ∗ atPos ER (barCell c) 0 ∅ 0
    ∗ (bigSep Finset.univ fun i : Fin 12 => stok c i) ∗ (bigSep Finset.univ fun i : Fin 12 => (atPos ER (xcell c (snd i)) 0 ∅ 0 : sProp 𝕄))
    ∗ (bigSep Finset.univ fun i : Fin 12 => (atPos ER (xcell c (rcv i)) 0 ∅ 0 : sProp 𝕄)))
def crd (c : Dev nD) : sProp 𝕄 :=
  iprop(cred (tallyAt (barCell c) () 2) ∗ (bigSep Finset.univ fun i : Fin 12 => (cred (tallyAt (xcell c (rcv i)) () (N i.val)) : sProp 𝕄)))
/-- All of `c`'s semaphores at zero. -/
def zeros (c : Dev nD) : sProp 𝕄 :=
  iprop(semVal (barCell c) 0 ∗ (bigSep Finset.univ fun i : Fin 12 => (semVal (xcell c (snd i)) 0 : sProp 𝕄))
    ∗ (bigSep Finset.univ fun i : Fin 12 => (semVal (xcell c (rcv i)) 0 : sProp 𝕄)))

theorem wtok_rcv (c : Dev nD) (i : Fin 12) :
    iprop(cred (tallyAt (xcell c (rcv i)) () (N i.val)) ∗ atPos ER (xcell c (rcv i)) 0 ∅ 0 : sProp 𝕄) ⊢ wtok c (rcv i) := by
  unfold wtok
  rw [show (rcv i).val % 12 = i.val from by show (12 + i.val) % 12 = i.val; rw [Nat.add_mod_left, Nat.mod_eq_of_lt i.isLt]]

theorem pt_any (c : Dev nD) (b : Ref sig .tc) (S : Finset b.ty.Idx) (f : b.ty.Contents (Elt F)) : (pt c b S fullShare f : sProp 𝕄) ⊢ ptE c b S := by
  iintro H; iexists f; iexact H
theorem join4 (c : Dev nD) (b : Ref sig .tc) (S T U : Finset b.ty.Idx) (q : PosShare TreeShare) (f : b.ty.Contents (Elt F)) (h : S = T ∪ U) (hd : Disjoint T U) :
    (iprop(pt c b T q f ∗ pt c b U q f) : sProp 𝕄) ⊢ pt c b S q f := (pt_cut c b S T U q f h hd).2
theorem join_halves (c : Dev nD) (b : Ref sig .tc) (S : Finset b.ty.Idx) (q : PosShare TreeShare) (f : b.ty.Contents (Elt F)) :
    (iprop(pt c b S q.left f ∗ pt c b S q.right f) : sProp 𝕄) ⊢ pt c b S q f := (pt_halves c b S q f).2

set_option maxHeartbeats 1000000 in
/-- One device's run of the kernel's body: from the protocol's start, its staged inputs and its scratch, to its result, everything given
    back, nothing owed and every semaphore at zero. -/
theorem body_run (K : Dev nD × Cix → ℕ) (c : Dev nD) (f : Vec F S4096x512 .f32) :
    iprop(Ctx m K ∗ ow c (O₀ c) ∗ lin c ∗ crd c ∗ ins m c ∗ scr c ∗ pt c bOut Finset.univ fullShare f)
      ⊢ wpc c (cc0_body (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13) (fun _ => iprop(zeros c ∗ ow c (owedL c []) ∗ ins m c ∗ scr c ∗ pt c bOut Finset.univ fullShare (outF m c))) := by
  simp only [cc0_body_eq_skeleton]; unfold cc0_body_skel lin crd ins
  rw [b12, b12, b12, b12]
  iintro ⟨#HC, HO, ⟨HtL, HtR, HaB, ⟨S0, S1, S2, S3, S4, S5, S6, S7, S8, S9, S10, S11⟩, ⟨A0, A1, A2, A3, A4, A5, A6, A7, A8, A9, A10, A11⟩, B0, B1, B2, B3, B4, B5, B6, B7, B8, B9, B10, B11⟩, ⟨HcB, D0, D1, D2, D3, D4, D5, D6, D7, D8, D9, D10, D11⟩, ⟨HX, HW, HSX, HSW⟩, Hscr, HOut⟩
  ihave Hscr := (show scr c ⊢ _ from by unfold scr; exact Entails.rfl) $$ Hscr
  icases Hscr with ⟨Ex8, Ew8, Ewl, Ewr, Ewo, Ebl, Ebr, Ebo, Erbl, Erbr, Erbo, Eacc⟩
  ihave K0 := (wtok_rcv c 0) $$ [D0 B0]
  · isplitl [D0]; · iexact D0
    iexact B0
  ihave K1 := (wtok_rcv c 1) $$ [D1 B1]
  · isplitl [D1]; · iexact D1
    iexact B1
  ihave K2 := (wtok_rcv c 2) $$ [D2 B2]
  · isplitl [D2]; · iexact D2
    iexact B2
  ihave K3 := (wtok_rcv c 3) $$ [D3 B3]
  · isplitl [D3]; · iexact D3
    iexact B3
  ihave K4 := (wtok_rcv c 4) $$ [D4 B4]
  · isplitl [D4]; · iexact D4
    iexact B4
  ihave K5 := (wtok_rcv c 5) $$ [D5 B5]
  · isplitl [D5]; · iexact D5
    iexact B5
  ihave K6 := (wtok_rcv c 6) $$ [D6 B6]
  · isplitl [D6]; · iexact D6
    iexact B6
  ihave K7 := (wtok_rcv c 7) $$ [D7 B7]
  · isplitl [D7]; · iexact D7
    iexact B7
  ihave K8 := (wtok_rcv c 8) $$ [D8 B8]
  · isplitl [D8]; · iexact D8
    iexact B8
  ihave K9 := (wtok_rcv c 9) $$ [D9 B9]
  · isplitl [D9]; · iexact D9
    iexact B9
  ihave K10 := (wtok_rcv c 10) $$ [D10 B10]
  · isplitl [D10]; · iexact D10
    iexact B10
  ihave K11 := (wtok_rcv c 11) $$ [D11 B11]
  · isplitl [D11]; · iexact D11
    iexact B11
  iapply (then_ c (part1_spec m K c)) $$ [HO HtL HtR HcB HaB HW Ew8 Ewl Ewr Ewo Erbl Erbr]
  · isplitr; · iexact HC
    isplitl [HO]; · iexact HO
    isplitl [HtL]; · iexact HtL
    isplitl [HtR]; · iexact HtR
    isplitl [HcB]; · iexact HcB
    isplitl [HaB]; · iexact HaB
    isplitl [HW]; · iexact HW
    isplitl [Ew8]; · iexact Ew8
    isplitl [Ewl]; · iexact Ewl
    isplitl [Ewr]; · iexact Ewr
    isplitl [Ewo]; · iexact Ewo
    isplitl [Erbl]; · iexact Erbl
    iexact Erbr
  iintro %r ⟨%hr, HzB, HO, HW, Hw8, Hp1, Hp2⟩
  obtain ⟨d0, v2, v5, v7, v9⟩ := r
  have hd : c = d0 := hr.symm
  subst hd
  dsimp only
  unfold barPay
  icases Hp1 with ⟨Nwl, NwoR, Nrbl⟩
  icases Hp2 with ⟨Nwr, NwoL, Nrbr⟩
  ihave NwoR := (ptE_cut _ wo (R4 0 2048) (R4 0 1024) (R4 1024 2048) (R4_union 0 1024 2048 (by decide) (by decide)) (R4_disj _ _ _)) $$ NwoR
  icases NwoR with ⟨Nw0, Nw1⟩
  ihave NwoL := (ptE_cut _ wo (R4 2048 4096) (R4 2048 3072) (R4 3072 4096) (R4_union 2048 3072 4096 (by decide) (by decide)) (R4_disj _ _ _)) $$ NwoL
  icases NwoL with ⟨Nw2, Nw3⟩
  iapply (then_ c (part2_spec m K c v5 v7)) $$ [HO S0 S2 S1 S3 HX Hw8 Nwl Nwr Erbo]
  · isplitr; · iexact HC
    isplitl [HO]; · iexact HO
    isplitl [S0]; · iexact S0
    isplitl [S2]; · iexact S2
    isplitl [S1]; · iexact S1
    isplitl [S3]; · iexact S3
    isplitl [HX]; · iexact HX
    isplitl [Hw8]; · iexact Hw8
    isplitl [Nwl]; · iexact Nwl
    isplitl [Nwr]; · iexact Nwr
    iexact Erbo
  iintro %r ⟨%hr, HO, C0, C2, C1, C3, HX, Hw8⟩
  subst hr
  iapply (then_ c (part3_spec m K c v2 v7 f)) $$ [HO S4 K0 Ex8 HSX HSW Hw8 HOut Nw0]
  · isplitr; · iexact HC
    isplitl [HO]; · iexact HO
    isplitl [S4]; · iexact S4
    isplitl [K0]; · iexact K0
    isplitl [Ex8]; · iexact Ex8
    isplitl [HSX]; · iexact HSX
    isplitl [HSW]; · iexact HSW
    isplitl [Hw8]; · iexact Hw8
    isplitl [HOut]; · iexact HOut
    iexact Nw0
  iintro %r ⟨%hr, HO, C4, ZR0, Hx8, HSX, HSW, Hw8, HOut, HwlA, HwlB⟩
  obtain ⟨v59, w1⟩ := r
  have hv : v59 = sc m c := hr
  subst hv
  dsimp only
  iapply (then_ c (part4_spec m K c v5 v7 w1)) $$ [HO S5 S6 K2 HwlB Nw1 Nw2]
  · isplitr; · iexact HC
    isplitl [HO]; · iexact HO
    isplitl [S5]; · iexact S5
    isplitl [S6]; · iexact S6
    isplitl [K2]; · iexact K2
    isplitl [HwlB]; · iexact HwlB
    isplitl [Nw1]; · iexact Nw1
    iexact Nw2
  iintro %r ⟨HO, C5, C6, ZR2, HwrA, HwrB⟩
  iapply (then_ c (part5_spec m K c v5 v7)) $$ [HO S7 S8 K1 HwrB Nw3 Hx8 HwlA Ebl Nrbr]
  · isplitr; · iexact HC
    isplitl [HO]; · iexact HO
    isplitl [S7]; · iexact S7
    isplitl [S8]; · iexact S8
    isplitl [K1]; · iexact K1
    isplitl [HwrB]; · iexact HwrB
    isplitl [Nw3]; · iexact Nw3
    isplitl [Hx8]; · iexact Hx8
    isplitl [HwlA]; · iexact HwlA
    isplitl [Ebl]; · iexact Ebl
    iexact Nrbr
  iintro %r ⟨HO, C7, C8, ZR1, Hx8, Hwl, HwlL2⟩
  iapply (then_ c (part6_spec m K c v5 v7)) $$ [HO S9 K3 K4 K6 Hx8 HwrA Ebr Nrbl]
  · isplitr; · iexact HC
    isplitl [HO]; · iexact HO
    isplitl [S9]; · iexact S9
    isplitl [K3]; · iexact K3
    isplitl [K4]; · iexact K4
    isplitl [K6]; · iexact K6
    isplitl [Hx8]; · iexact Hx8
    isplitl [HwrA]; · iexact HwrA
    isplitl [Ebr]; · iexact Ebr
    iexact Nrbl
  iintro %r ⟨HO, C9, ZR3, ZR4, ZR6, Hx8, Hwr, HwrL1, Ho0, Ho2, Nrbo⟩
  iapply (then_ c (part7_spec m K c v5 v7)) $$ [HO K5 K7 Hx8 Ho0 Ho2 Eacc]
  · isplitr; · iexact HC
    isplitl [HO]; · iexact HO
    isplitl [K5]; · iexact K5
    isplitl [K7]; · iexact K7
    isplitl [Hx8]; · iexact Hx8
    isplitl [Ho0]; · iexact Ho0
    isplitl [Ho2]; · iexact Ho2
    iexact Eacc
  iintro %r ⟨%hr, HO, ZR5, ZR7, Hx8, Ho0, Ho1, Ho2, Ho3, Hacc⟩
  subst hr
  dsimp only
  ihave Nrbo := (ptE_cut _ rbo Finset.univ (R1 0 512) (R1 512 1024) R1_halves (R1_disj _ _ _)) $$ Nrbo
  icases Nrbo with ⟨Nb0, Nb1⟩
  iapply (then_ c (part8_spec m K c v9)) $$ [HO S10 Hx8 Ho1 Ho3 Hacc Ebo Nb0]
  · isplitr; · iexact HC
    isplitl [HO]; · iexact HO
    isplitl [S10]; · iexact S10
    isplitl [Hx8]; · iexact Hx8
    isplitl [Ho1]; · iexact Ho1
    isplitl [Ho3]; · iexact Ho3
    isplitl [Hacc]; · iexact Hacc
    isplitl [Ebo]; · iexact Ebo
    iexact Nb0
  iintro %r ⟨%hr, HO, C10, Ebo2, Hx8, Ho1, Ho3, Hacc⟩
  subst hr
  iapply (then_ c (part9_spec m K c v5 v7 v9 f)) $$ [HO S11 K9 K8 Ebo2 Nb1 HOut]
  · isplitr; · iexact HC
    isplitl [HO]; · iexact HO
    isplitl [S11]; · iexact S11
    isplitl [K9]; · iexact K9
    isplitl [K8]; · iexact K8
    isplitl [Ebo2]; · iexact Ebo2
    isplitl [Nb1]; · iexact Nb1
    iexact HOut
  iintro %r ⟨%hr, HO, C11, ZR9, ZR8, Hrbl, Hrbr, HOut⟩
  obtain ⟨v248, w2⟩ := r
  have hv : v248 = k0_pay13 (blF m (right c)) := hr
  subst hv
  dsimp only
  iapply (then_ c (part10_spec m K c v9 w2 f)) $$ [HO K10 K11 HOut]
  · isplitr; · iexact HC
    isplitl [HO]; · iexact HO
    isplitl [K10]; · iexact K10
    isplitl [K11]; · iexact K11
    iexact HOut
  iintro %r ⟨HO, ZR10, ZR11, Hrb0, Hrb1, HOut⟩
  ihave T0 := (wtok_mk c 0) $$ [C0 A0]
  · isplitl [C0]; · iexact C0
    iexact A0
  ihave T1 := (wtok_mk c 1) $$ [C1 A1]
  · isplitl [C1]; · iexact C1
    iexact A1
  ihave T2 := (wtok_mk c 2) $$ [C2 A2]
  · isplitl [C2]; · iexact C2
    iexact A2
  ihave T3 := (wtok_mk c 3) $$ [C3 A3]
  · isplitl [C3]; · iexact C3
    iexact A3
  ihave T4 := (wtok_mk c 4) $$ [C4 A4]
  · isplitl [C4]; · iexact C4
    iexact A4
  ihave T5 := (wtok_mk c 5) $$ [C5 A5]
  · isplitl [C5]; · iexact C5
    iexact A5
  ihave T6 := (wtok_mk c 6) $$ [C6 A6]
  · isplitl [C6]; · iexact C6
    iexact A6
  ihave T7 := (wtok_mk c 7) $$ [C7 A7]
  · isplitl [C7]; · iexact C7
    iexact A7
  ihave T8 := (wtok_mk c 8) $$ [C8 A8]
  · isplitl [C8]; · iexact C8
    iexact A8
  ihave T9 := (wtok_mk c 9) $$ [C9 A9]
  · isplitl [C9]; · iexact C9
    iexact A9
  ihave T10 := (wtok_mk c 10) $$ [C10 A10]
  · isplitl [C10]; · iexact C10
    iexact A10
  ihave T11 := (wtok_mk c 11) $$ [C11 A11]
  · isplitl [C11]; · iexact C11
    iexact A11
  iapply (then_ c (part11_spec m K c)) $$ [HO T0 T1 T2 T3 T4]
  · isplitr; · iexact HC
    isplitl [HO]; · iexact HO
    isplitl [T0]; · iexact T0
    isplitl [T1]; · iexact T1
    isplitl [T2]; · iexact T2
    isplitl [T3]; · iexact T3
    iexact T4
  iintro %r ⟨HO, ZS0, ZS1, ZS2, ZS3, ZS4, L0, L1, L2, L3, L4⟩
  iapply (then_ c (part12_spec m K c)) $$ [HO T5 T6 T7 T8 T9 T10]
  · isplitr; · iexact HC
    isplitl [HO]; · iexact HO
    isplitl [T5]; · iexact T5
    isplitl [T6]; · iexact T6
    isplitl [T7]; · iexact T7
    isplitl [T8]; · iexact T8
    isplitl [T9]; · iexact T9
    iexact T10
  iintro %r ⟨HO, ZS5, ZS6, ZS7, ZS8, ZS9, ZS10, L5, L6, L7, L8, L9, L10⟩
  simp only [Prog.lift, Prog.bind_op, Prog.bind_ret, Prog.pure_eq_ret]
  iapply (aw m K c (snd 11) [] (fun j hj => absurd hj List.not_mem_nil) (pt c bo (R1 512 1024) fullShare (boF m c)) (Entails.of_eq rfl) (dm := (Memref.whole bo).slice (Rect.unit (s := S1024x512) ![512, 0] S512x512.size inb_S1024x512_S512x512_512_0) (fun _ => rfl)) rfl rfl) $$ [T11 HO]
  · isplitr; · iexact HC
    isplitl [T11]; · iexact T11
    iexact HO
  iintro ⟨ZS11, L11, HO⟩
  iapply (Entails.of_eq (wp_ret ..).symm); imodintro
  ihave L0 := (join4 c w8 (Finset.univ) (R4 0 2048) (R4 2048 4096) sLL (W m c) (R4_halves) (R4_disj _ _ _)) $$ [L0 L1]
  · isplitl [L0]; · iexact L0
    iexact L1
  ihave L3 := (join4 c w8 (Finset.univ) (R4 0 2048) (R4 2048 4096) sLR (W m c) (R4_halves) (R4_disj _ _ _)) $$ [L3 L2]
  · isplitl [L3]; · iexact L3
    iexact L2
  ihave L0 := (join_halves c w8 Finset.univ sL (W m c)) $$ [L0 L3]
  · isplitl [L0]; · iexact L0
    iexact L3
  ihave Hw8 := (join_halves c w8 Finset.univ fullShare (W m c)) $$ [L0 Hw8]
  · isplitl [L0]; · iexact L0
    iexact Hw8
  ihave L4 := (join4 c wl (R4 0 2048) (R4 0 1024) (R4 1024 2048) sL (W m (left c)) (R4_union 0 1024 2048 (by decide) (by decide)) (R4_disj _ _ _)) $$ [L4 L5]
  · isplitl [L4]; · iexact L4
    iexact L5
  ihave L4 := (join4 c wl (Finset.univ) (R4 0 2048) (R4 2048 4096) sL (W m (left c)) (R4_halves) (R4_disj _ _ _)) $$ [L4 HwlL2]
  · isplitl [L4]; · iexact L4
    iexact HwlL2
  ihave Hwl := (join_halves c wl Finset.univ fullShare (W m (left c))) $$ [L4 Hwl]
  · isplitl [L4]; · iexact L4
    iexact Hwl
  ihave L6 := (join4 c wr (R4 2048 4096) (R4 2048 3072) (R4 3072 4096) sL (W m (right c)) (R4_union 2048 3072 4096 (by decide) (by decide)) (R4_disj _ _ _)) $$ [L6 L7]
  · isplitl [L6]; · iexact L6
    iexact L7
  ihave L6 := (join4 c wr (Finset.univ) (R4 0 2048) (R4 2048 4096) sL (W m (right c)) (R4_halves) (R4_disj _ _ _)) $$ [HwrL1 L6]
  · isplitl [HwrL1]; · iexact HwrL1
    iexact L6
  ihave Hwr := (join_halves c wr Finset.univ fullShare (W m (right c))) $$ [L6 Hwr]
  · isplitl [L6]; · iexact L6
    iexact Hwr
  ihave Ho0 := (join4 c wo (R4 0 2048) (R4 0 1024) (R4 1024 2048) fullShare (W m (opp c)) (R4_union 0 1024 2048 (by decide) (by decide)) (R4_disj _ _ _)) $$ [Ho0 Ho1]
  · isplitl [Ho0]; · iexact Ho0
    iexact Ho1
  ihave Ho2 := (join4 c wo (R4 2048 4096) (R4 2048 3072) (R4 3072 4096) fullShare (W m (opp c)) (R4_union 2048 3072 4096 (by decide) (by decide)) (R4_disj _ _ _)) $$ [Ho2 Ho3]
  · isplitl [Ho2]; · iexact Ho2
    iexact Ho3
  ihave Ho0 := (join4 c wo (Finset.univ) (R4 0 2048) (R4 2048 4096) fullShare (W m (opp c)) (R4_halves) (R4_disj _ _ _)) $$ [Ho0 Ho2]
  · isplitl [Ho0]; · iexact Ho0
    iexact Ho2
  ihave L10 := (join4 c bo (Finset.univ) (R1 0 512) (R1 512 1024) fullShare (boF m c) (R1_halves) (R1_disj _ _ _)) $$ [L10 L11]
  · isplitl [L10]; · iexact L10
    iexact L11
  ihave Hrb0 := (join4 c rbo (Finset.univ) (R1 0 512) (R1 512 1024) fullShare (boF m (opp c)) (R1_halves) (R1_disj _ _ _)) $$ [Hrb0 Hrb1]
  · isplitl [Hrb0]; · iexact Hrb0
    iexact Hrb1
  unfold zeros
  rw [b12, b12]
  isplitl [HzB ZS0 ZS1 ZS2 ZS3 ZS4 ZS5 ZS6 ZS7 ZS8 ZS9 ZS10 ZS11 ZR0 ZR1 ZR2 ZR3 ZR4 ZR5 ZR6 ZR7 ZR8 ZR9 ZR10 ZR11]
  · isplitl [HzB]; · iexact HzB
    isplitl [ZS0 ZS1 ZS2 ZS3 ZS4 ZS5 ZS6 ZS7 ZS8 ZS9 ZS10 ZS11]
    · isplitl [ZS0]; · iexact ZS0
      isplitl [ZS1]; · iexact ZS1
      isplitl [ZS2]; · iexact ZS2
      isplitl [ZS3]; · iexact ZS3
      isplitl [ZS4]; · iexact ZS4
      isplitl [ZS5]; · iexact ZS5
      isplitl [ZS6]; · iexact ZS6
      isplitl [ZS7]; · iexact ZS7
      isplitl [ZS8]; · iexact ZS8
      isplitl [ZS9]; · iexact ZS9
      isplitl [ZS10]; · iexact ZS10
      iexact ZS11
    isplitl [ZR0]; · iexact ZR0
    isplitl [ZR1]; · iexact ZR1
    isplitl [ZR2]; · iexact ZR2
    isplitl [ZR3]; · iexact ZR3
    isplitl [ZR4]; · iexact ZR4
    isplitl [ZR5]; · iexact ZR5
    isplitl [ZR6]; · iexact ZR6
    isplitl [ZR7]; · iexact ZR7
    isplitl [ZR8]; · iexact ZR8
    isplitl [ZR9]; · iexact ZR9
    isplitl [ZR10]; · iexact ZR10
    iexact ZR11
  isplitl [HO]; · iexact HO
  isplitl [HX HW HSX HSW]
  · isplitl [HX]; · iexact HX
    isplitl [HW]; · iexact HW
    isplitl [HSX]; · iexact HSX
    iexact HSW
  isplitl [Hx8 Hw8 Hwl Hwr Ho0 L8 L9 L10 Hrbl Hrbr Hrb0 Hacc]
  · unfold scr
    isplitl [Hx8]; · iapply (pt_any c _ _ _); iexact Hx8
    isplitl [Hw8]; · iapply (pt_any c _ _ _); iexact Hw8
    isplitl [Hwl]; · iapply (pt_any c _ _ _); iexact Hwl
    isplitl [Hwr]; · iapply (pt_any c _ _ _); iexact Hwr
    isplitl [Ho0]; · iapply (pt_any c _ _ _); iexact Ho0
    isplitl [L8]; · iapply (pt_any c _ _ _); iexact L8
    isplitl [L9]; · iapply (pt_any c _ _ _); iexact L9
    isplitl [L10]; · iapply (pt_any c _ _ _); iexact L10
    isplitl [Hrbl]; · iapply (pt_any c _ _ _); iexact Hrbl
    isplitl [Hrbr]; · iapply (pt_any c _ _ _); iexact Hrbr
    isplitl [Hrb0]; · iapply (pt_any c _ _ _); iexact Hrb0
    iapply (pt_any c _ _ _); iexact Hacc
  rw [← out5_eq m c f]; iexact HOut

end Cert.KernelIdeal.RingMM

end
-- ==== Proof.Launch.lean ====
/-
The launch of the ring matmul: what the four devices start from, dealt out, and the run of the whole program.
-/
module

public import proofs.«01_k».proof.Proof.Body
public import Idealize.ShloMosaic.Lib.Pipeline.CollectiveSegs

@[expose] public section

set_option maxRecDepth 16384

noncomputable section

namespace Cert.KernelIdeal.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

def s₀ : MemSt nD τ sig (Elt F) := ⟨m, fun _ => 0, ρ⟩

/-! ## What the launch is told -/

def t₀ : Fin cfg0.N := t0_0
theorem fin_N (t : Fin cfg0.N) : t = t₀ := fin_N0 t

/-- What a device's run starts from besides its buffers: the shared records, its own part of the protocol, its credit. -/
def G' (c : Dev nD) : sProp 𝕄 := iprop(∃ K, records m K ∗ lin c)
def start (c : Dev nD) : sProp 𝕄 := iprop(G' m c ∗ crd c ∗ levAts L lv)
def Φ₀ (c : Dev nD) : sProp 𝕄 := iprop(start m c ∗ scr c)
def Φ₁ (c : Dev nD) : sProp 𝕄 := iprop(zeros c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => win m c
    | ⟨2, _⟩ => sxin m c
    | ⟨3, _⟩ => swin m c
    | ⟨4, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ
theorem fetch_at (t : Fin cfg0.N) : (cfg0.win (0 : Fin 5)).fetch t = true ∧ (cfg0.win (1 : Fin 5)).fetch t = true
    ∧ (cfg0.win (2 : Fin 5)).fetch t = true ∧ (cfg0.win (3 : Fin 5)).fetch t = true := by rw [fin_N t]; exact ⟨rfl, rfl, rfl, rfl⟩

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))
theorem stg_mk (c : Dev nD) (b : Ref sig .tc) (Y : b.ty.Contents (Elt F)) : pt c b Finset.univ fullShare Y ⊢ stg c b Y := by
  iintro H; iexists Y; isplitr; · (ipureintro; rfl)
  iexact H

def bodyPre (c : Dev nD) : sProp 𝕄 :=
  iprop(Φ₀ m c ∗ (dats m ρ 0 c).owesAt () t₀.castSucc
    ∗ (∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt () t₀.succ ∗ stg c cc0_stg0_0 (xin m c) ∗ stg c cc0_stg1_0 (win m c) ∗ stg c cc0_stg2_0 (sxin m c)
    ∗ stg c cc0_stg3_0 (swin m c) ∗ stg c cc0_stg4_0 (outF m c))

theorem before_0 (c : Dev nD) (d : bX.ty.Contents (Elt F)) : (dats m ρ 0 c).before (0 : Fin 5) t₀ d = xin m c := by
  unfold Dat.before; rw [if_pos (fetch_at t₀).1]; rfl
theorem before_1 (c : Dev nD) (d : bW.ty.Contents (Elt F)) : (dats m ρ 0 c).before (1 : Fin 5) t₀ d = win m c := by
  unfold Dat.before; rw [if_pos (fetch_at t₀).2.1]; rfl
theorem before_2 (c : Dev nD) (d : bSx.ty.Contents (Elt F)) : (dats m ρ 0 c).before (2 : Fin 5) t₀ d = sxin m c := by
  unfold Dat.before; rw [if_pos (fetch_at t₀).2.2.1]; rfl
theorem before_3 (c : Dev nD) (d : bSw.ty.Contents (Elt F)) : (dats m ρ 0 c).before (3 : Fin 5) t₀ d = swin m c := by
  unfold Dat.before; rw [if_pos (fetch_at t₀).2.2.2]; rfl

/-- A run's postcondition handed on. -/
theorem then_ret {α : Type} {p : Prog (TpuEff nD τ sig (Elt F) Λ₀ .tc) α} (c : Dev nD) {Pre : sProp 𝕄} {Φ Q : α → sProp 𝕄} (h : Pre ⊢ wpc c p Φ) :
    Pre ⊢ iprop((∀ r, Φ r -∗ Q r) -∗ wpc c p Q) := h.trans (wp_wand _ _ _)

set_option maxHeartbeats 800000 in
theorem sound_body (c : Dev nD) : bodyPre m ρ c ⊢ wpc c (cc0_body (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13) (fun _ => bodyPost m ρ c) := by
  unfold bodyPre Φ₀ start G'
  iintro ⟨⟨⟨⟨%K, #HR, HL⟩, Hcr, #Hlev⟩, Hscr⟩, Ho, ⟨%d0, %g0, %hg0, HX⟩, ⟨%d1, %g1, %hg1, HW⟩, ⟨%d2, %g2, %hg2, HSX⟩, ⟨%d3, %g3, %hg3, HSW⟩, ⟨%d4, %g4, %hg4, HOut⟩⟩
  have h0 := hg0.trans (before_0 m ρ c d0)
  have h1 := hg1.trans (before_1 m ρ c d1)
  have h2 := hg2.trans (before_2 m ρ c d2)
  have h3 := hg3.trans (before_3 m ρ c d3)
  subst h0 h1 h2 h3
  unfold Dat.owesAt Pipeline.owesWithin
  icases Ho with ⟨%Wt, %hW, HO⟩
  rw [show (dats m ρ 0 c).owed t₀.castSucc = O₀ c from rfl]
  ihave HO := (ow_intro c (O₀ c) Wt) $$ HO
  iapply (then_ret c (body_run m K c g4)) $$ [HO HL Hcr HX HW HSX HSW Hscr HOut]
  · isplitr
    · unfold Ctx; isplitl; · iexact HR
      iexact Hlev
    isplitl [HO]; · iexact HO
    isplitl [HL]; · iexact HL
    isplitl [Hcr]; · iexact Hcr
    isplitl [HX HW HSX HSW]
    · unfold ins
      isplitl [HX]; · iexact HX
      isplitl [HW]; · iexact HW
      isplitl [HSX]; · iexact HSX
      iexact HSW
    isplitl [Hscr]; · iexact Hscr
    iexact HOut
  iintro %r ⟨Hz, HO, Hin, Hscr, HOut⟩
  unfold bodyPost Φ₁ Dat.owesAt Pipeline.owesWithin ins ow
  rw [show (dats m ρ 0 c).owed t₀.succ = 0 from rfl]
  icases HO with ⟨%Wt', HO⟩
  icases Hin with ⟨HX, HW, HSX, HSW⟩
  isplitl [Hz Hscr]
  · isplitl [Hz]; · iexact Hz
    iexact Hscr
  isplitl [HO]
  · iexists Wt'
    isplitr; · (ipureintro; exact fun _ _ => Or.inl trivial)
    iexact HO
  isplitl [HX]; · iapply (stg_mk c _ _); iexact HX
  isplitl [HW]; · iapply (stg_mk c _ _); iexact HW
  isplitl [HSX]; · iapply (stg_mk c _ _); iexact HSX
  isplitl [HSW]; · iapply (stg_mk c _ _); iexact HSW
  iapply (stg_mk c _ _); iexact HOut

theorem after_0 (c : Dev nD) : (dats m ρ 0 c).after (0 : Fin 5) t₀ = xin m c := by dsimp only [dats]
theorem after_1 (c : Dev nD) : (dats m ρ 0 c).after (1 : Fin 5) t₀ = win m c := by dsimp only [dats]
theorem after_2 (c : Dev nD) : (dats m ρ 0 c).after (2 : Fin 5) t₀ = sxin m c := by dsimp only [dats]
theorem after_3 (c : Dev nD) : (dats m ρ 0 c).after (3 : Fin 5) t₀ = swin m c := by dsimp only [dats]
theorem after_4 (c : Dev nD) : (dats m ρ 0 c).after (4 : Fin 5) t₀ = outF m c := by dsimp only [dats]

theorem body_obligation (c : Dev nD) : BodyObligation (dats (F := F) m ρ 0 c) (defs₀ (F := F)) 𝒱₀ () Set.univ := fun t => by
  rw [fin_N t]
  rw [bigSep_W, bigSep_W]
  simp only [owns_whole_eq]
  rw [after_0 m ρ c, after_1 m ρ c, after_2 m ρ c, after_3 m ρ c, after_4 m ρ c]
  show bodyPre m ρ c ⊢ wp frame (wpE (defs₀ (F := F)) 𝒱₀ c none) Set.univ (cc0_body (Memref.whole bX) (Memref.isWhole_whole _) (Memref.whole bW) (Memref.isWhole_whole _) (Memref.whole bSx) (Memref.isWhole_whole _) (Memref.whole bSw) (Memref.isWhole_whole _) (Memref.whole bOut) (Memref.isWhole_whole _) (Memref.whole x8) (Memref.isWhole_whole _) (Memref.whole w8) (Memref.isWhole_whole _) (Memref.whole wl) (Memref.isWhole_whole _) (Memref.whole wr) (Memref.isWhole_whole _) (Memref.whole wo) (Memref.isWhole_whole _) (Memref.whole bl) (Memref.isWhole_whole _) (Memref.whole br) (Memref.isWhole_whole _) (Memref.whole bo) (Memref.isWhole_whole _) (Memref.whole rbl) (Memref.isWhole_whole _) (Memref.whole rbr) (Memref.isWhole_whole _) (Memref.whole rbo) (Memref.isWhole_whole _) (Memref.whole acc) (Memref.isWhole_whole _) cc0_scratch12 cc0_scratch13) (fun _ => bodyPost m ρ c)
  exact sound_body m ρ c

/-! ## The launch -/

abbrev osem : Fin 24 → SemLoc sig := fun k => .dma (xs k)
theorem ownSemFacts : Pipeline.OwnSemFacts cfg0.spec osem := by decide
theorem share_eq (c : Dev nD) (w : Fin cfg0.W) : (dats m ρ 0 c).share w = fullShare := by unfold Dat.share; split <;> rfl

theorem xs_inj {j k : Fin 24} (h : xs j = xs k) : j = k := by
  have : j.val + 5 = k.val + 5 := congrArg Fin.val h
  exact Fin.ext (by omega)
theorem xcell_inj {a b : Dev nD} {j k : Fin 24} (h : xcell a j = xcell b k) : a = b ∧ j = k := by
  refine ⟨congrArg (fun g : GSem nD τ sig => g.1.1) h, xs_inj ?_⟩
  have h2 : (SemLoc.dma (xs j) : SemLoc sig) = .dma (xs k) := congrArg Prod.snd h
  exact SemLoc.dma.inj h2
theorem x_ne_bar (a b : Dev nD) (k : Fin 24) : xcell a k ≠ barCell b := fun h => by
  have h2 : (SemLoc.dma (xs k) : SemLoc sig) = .reg barS := congrArg Prod.snd h
  cases h2
theorem bar_inj {a b : Dev nD} (h : barCell a = barCell b) : a = b := congrArg (fun g : GSem nD τ sig => g.1.1) h

theorem kcell_injective : Function.Injective (kcell : Dev nD × Cix → GSem nD τ sig) := by
  rintro ⟨c, k⟩ ⟨c', k'⟩ h
  rcases k with u | k <;> rcases k' with u' | k'
  · have h' : barCell c = barCell c' := h
    rw [bar_inj h']
  · exact absurd (show xcell c' k' = barCell c from h.symm) (x_ne_bar _ _ _)
  · exact absurd (show xcell c k = barCell c' from h) (x_ne_bar _ _ _)
  · obtain ⟨h1, h2⟩ := xcell_inj (show xcell c k = xcell c' k' from h)
    rw [h1, h2]
def ringCells : Finset (GSem nD τ sig) := Finset.univ.map ⟨kcell, kcell_injective⟩

/-- The duties minted: a device's barrier's two, one for each of its copy semaphores. -/
def tokOf (cj : Dev nD × (Bool ⊕ Fin 24)) : GSem nD τ sig × ℕ × Bool := match cj.2 with
  | .inl b => (barCell cj.1, 0, b) | .inr k => (xcell cj.1 k, 0, false)
theorem tokOf_injective : Function.Injective (tokOf : Dev nD × (Bool ⊕ Fin 24) → GSem nD τ sig × ℕ × Bool) := by
  rintro ⟨c, j⟩ ⟨c', j'⟩ h
  rcases j with b | k <;> rcases j' with b' | k'
  · have h1 : barCell c = barCell c' := congrArg Prod.fst h
    have h2 : b = b' := congrArg (fun x : GSem nD τ sig × ℕ × Bool => x.2.2) h
    rw [bar_inj h1, h2]
  · exact absurd (show xcell c' k' = barCell c from (congrArg Prod.fst h).symm) (x_ne_bar _ _ _)
  · exact absurd (show xcell c k = barCell c' from congrArg Prod.fst h) (x_ne_bar _ _ _)
  · obtain ⟨h1, h2⟩ := xcell_inj (show xcell c k = xcell c' k' from congrArg Prod.fst h)
    rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- A family over the 24 copy semaphores, send half and receive half. -/
theorem b24 (Φ : Fin 24 → sProp 𝕄) : bigSep Finset.univ Φ
    = iprop((bigSep Finset.univ fun i : Fin 12 => Φ (snd i)) ∗ (bigSep Finset.univ fun i : Fin 12 => Φ (rcv i))) := by
  rw [bigSep_univ_equiv (finSumFinEquiv : Fin 12 ⊕ Fin 12 ≃ Fin 24) Φ, bigSep_univ_sum]; rfl
/-- A family over one device's 25 cells. -/
theorem b25 (Φ : Cix → sProp 𝕄) : bigSep Finset.univ Φ = iprop(Φ (.inl ()) ∗ bigSep Finset.univ fun k : Fin 24 => Φ (.inr k)) := by
  rw [bigSep_univ_sum, bigSep_univ_of_subsingleton ()]; rfl

/-- The duty tokens of device `c`'s own cells, -/
def toks (c : Dev nD) : sProp 𝕄 :=
  iprop((dutyTok ER (barCell c) 0 true ∗ dutyTok ER (barCell c) 0 false)
    ∗ (bigSep Finset.univ fun i : Fin 12 => (dutyTok ER (xcell c (snd i)) 0 false : sProp 𝕄))
    ∗ (bigSep Finset.univ fun i : Fin 12 => (dutyTok ER (xcell c (rcv i)) 0 false : sProp 𝕄)))
/-- and those of the duties it pays. -/
def payToks (c : Dev nD) : sProp 𝕄 :=
  iprop((dutyTok ER (barCell (left c)) 0 true ∗ dutyTok ER (barCell (right c)) 0 false)
    ∗ (bigSep Finset.univ fun i : Fin 12 => (dutyTok ER (xcell c (snd i)) 0 false : sProp 𝕄))
    ∗ (bigSep Finset.univ fun i : Fin 12 => (dutyTok ER (xcell (dst c i) (rcv i)) 0 false : sProp 𝕄)))

theorem toks_eq (c : Dev nD) : (bigSep Finset.univ fun j : Bool ⊕ Fin 24 => (dutyTok ER (tokOf (c, j)).1 (tokOf (c, j)).2.1 (tokOf (c, j)).2.2 : sProp 𝕄)) = toks c := by
  rw [bigSep_univ_sum, b24, bigSep_univ_eq_bigSepL [true, false] (by decide) (by decide), bigSepL_cons_cons, bigSepL_singleton]
  rfl

def Gd (c : Dev nD) : sProp 𝕄 :=
  iprop((bigSep Finset.univ fun k : Cix => roundState ER (Rd m) (kcell (c, k)) 0)
    ∗ (bigSep Finset.univ fun k : Cix => iprop(atPos ER (kcell (c, k)) 0 ∅ 0 ∗ reached ER (kcell (c, k)) 0)) ∗ toks c)

theorem fund_ring : BI.own (ER (initOf ringCells ringToks)) ⊢ (|==> bigSep Finset.univ (Gd m) : sProp 𝕄) := by
  have hX (Φ : GSem nD τ sig → sProp 𝕄) : bigSep ringCells Φ = bigSep Finset.univ fun c : Dev nD => bigSep Finset.univ fun k : Cix => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gd; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Fin 24 => semVal (xcell c k) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ Gd m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold Gd
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) from by
        rw [ownSems0_eq, unscopedSems0_eq, b25]
        iintro ⟨HS, HB⟩
        isplitl [HB] <;> iassumption) $$ [Hos Hus]
  · isplitl [Hos] <;> iassumption
  imod (show iprop((bigSep Finset.univ fun k : Cix => semVal (kcell (c, k)) 0) ∗ bigSep Finset.univ fun k : Cix => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every token goes to the device that pays the duty: barrier tokens one step around the ring, copy `i`'s receive token to
    the device whose copy `i` lands there. -/
theorem toks_around : (bigSep Finset.univ fun c : Dev nD => (toks c : sProp 𝕄)) ⊢ bigSep Finset.univ fun c : Dev nD => payToks c := by
  unfold toks payToks
  simp only [bigSep_sep']
  rw [bigSep_univ_equiv turnR.symm (fun c : Dev nD => (dutyTok ER (barCell c) 0 true : sProp 𝕄)),
    bigSep_univ_equiv turnR (fun c : Dev nD => (dutyTok ER (barCell c) 0 false : sProp 𝕄)),
    bigSep_univ_comm (fun (c : Dev nD) (i : Fin 12) => (dutyTok ER (xcell c (rcv i)) 0 false : sProp 𝕄)),
    bigSep_univ_comm (fun (c : Dev nD) (i : Fin 12) => (dutyTok ER (xcell (dst c i) (rcv i)) 0 false : sProp 𝕄)),
    bigSep_congr (s := Finset.univ) (fun (i : Fin 12) _ => bigSep_univ_equiv (turn i) (fun c : Dev nD => (dutyTok ER (xcell c (rcv i)) 0 false : sProp 𝕄)))]
  exact Entails.rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem lin_intro (K : Dev nD × Cix → ℕ) (c : Dev nD) :
    iprop(records m K ∗ ((bigSep Finset.univ fun k : Cix => (atPos ER (kcell (c, k)) 0 ∅ 0 : sProp 𝕄)) ∗ payToks c)) ⊢ G' m c := by
  rw [b25, b24]
  unfold G' lin payToks stok
  simp only [bigSep_sep']
  iintro ⟨HR, ⟨HaB, HaS, HaV⟩, ⟨HtT, HtF⟩, HtS, HtV⟩
  iexists K
  isplitl [HR]; · iexact HR
  isplitl [HtT]; · iexact HtT
  isplitl [HtF]; · iexact HtF
  isplitl [HaB]; · iexact HaB
  isplitl [HtS HtV]
  · isplitl [HtS]; · iexact HtS
    iexact HtV
  isplitl [HaS]; · iexact HaS
  iexact HaV

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cix => iprop(∃ κ : ℕ, cellInv ER (Rd m) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄))]
  iintro ⟨HI, ⟨Hat, #HR⟩, Htok⟩
  ihave HK := (BI.bigSep_exists_pi Finset.univ (fun (ck : Dev nD × Cix) (κ : ℕ) => (cellInv ER (Rd m) κ (kcell ck) : sProp 𝕄))) $$ HI
  icases HK with ⟨%K, #HI⟩
  ihave Htk := (toks_around (F := F)) $$ Htok
  iapply (bigSep_with_persistent (R := records m K) fun c _ => lin_intro m K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ Gd m c) : sProp 𝕄)
    ⊢ |={Set.univ}=> bigSep Finset.univ (G' m) :=
  ((bigSep_mono fun c _ => core_alloc m c).trans (bigSep_fupd _ _)).trans (BI.fupd_mono (regroup m))

/-! ### The launch credit -/

theorem tally_x (a c : Dev nD) (i j : Fin 12) (n : ℕ) :
    (tallyAt (xcell a (rcv j)) () n : CellTallies nD τ sig Unit) (xcell c (rcv i)) () = if c = a ∧ i = j then n else 0 := by
  rw [tallyAt_apply]
  refine if_congr ⟨fun h => ?_, fun h => ⟨by rw [h.1, h.2], rfl⟩⟩ rfl rfl
  obtain ⟨h1, h2⟩ := xcell_inj h.1
  exact ⟨h1, Fin.ext (by have : 12 + i.val = 12 + j.val := congrArg Fin.val h2; omega)⟩
/-- What device `d` owes the receive semaphore of copy `i` on device `c`, -/
theorem owedL_at (d c : Dev nD) (i : Fin 12) : ∀ l : List (Fin 12), l.Nodup →
    owedL d l (xcell c (rcv i)) () = if i ∈ l ∧ c = dst d i then N i.val else 0
  | [], _ => by rw [if_neg (fun h => by simpa using h.1)]; rfl
  | j :: l, hl => by
    unfold owedL
    rw [Pi.add_apply, Finsupp.add_apply, owedL_at d c i l (List.nodup_cons.mp hl).2, tally_x]
    have hj := (List.nodup_cons.mp hl).1
    by_cases hij : i = j
    · subst hij
      rw [if_neg (fun h => hj h.1), Nat.zero_add]
      exact if_congr ⟨fun h => ⟨List.mem_cons_self, h.1⟩, fun h => ⟨h.2, rfl⟩⟩ rfl rfl
    · rw [if_neg (c := c = dst d j ∧ i = j) (fun h => hij h.2), Nat.add_zero]
      exact if_congr ⟨fun h => ⟨List.mem_cons_of_mem _ h.1, h.2⟩, fun h => ⟨(List.mem_cons.mp h.1).resolve_left hij, h.2⟩⟩ rfl rfl
theorem owedL_bar (d c : Dev nD) : ∀ l : List (Fin 12), owedL d l (barCell c) = 0
  | [] => rfl
  | j :: l => by
    unfold owedL
    rw [Pi.add_apply, owedL_bar d c l, tallyAt_ne_cell (fun h => x_ne_bar _ _ _ h.symm), add_zero]
theorem owed_rcv (d c : Dev nD) (i : Fin 12) : O₀ d (xcell c (rcv i)) () = if d = org c i then N i.val else 0 := by
  unfold O₀ O₁
  rw [Pi.add_apply, Finsupp.add_apply, Pi.add_apply, Finsupp.add_apply, owedL_at d c i order (by decide),
    tallyAt_ne_cell (x_ne_bar _ _ _), tallyAt_ne_cell (x_ne_bar _ _ _), Finsupp.zero_apply, Nat.add_zero, Nat.add_zero]
  refine if_congr ⟨fun h => ?_, fun h => ⟨(by decide : ∀ j : Fin 12, j ∈ order) i, ?_⟩⟩ rfl rfl
  · rw [h.2, org_dst]
  · rw [h, dst_org]
/-- and its barrier. -/
theorem owed_bar (d c : Dev nD) : O₀ d (barCell c) () = (if d = left c then 1 else 0) + (if d = right c then 1 else 0) := by
  unfold O₀ O₁
  rw [Pi.add_apply, Finsupp.add_apply, Pi.add_apply, Finsupp.add_apply, owedL_bar, tallyAt_apply, tallyAt_apply, Finsupp.zero_apply, Nat.zero_add]
  congr 1
  · refine if_congr ⟨fun h => ?_, fun h => ⟨?_, rfl⟩⟩ rfl rfl
    · rw [bar_inj h.1, left_right]
    · rw [h, right_left]
  · refine if_congr ⟨fun h => ?_, fun h => ⟨?_, rfl⟩⟩ rfl rfl
    · rw [bar_inj h.1, right_left]
    · rw [h, left_right]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1, if_pos (Finset.mem_univ _), if_pos (Finset.mem_univ _)]
theorem launch_rcv (c : Dev nD) (i : Fin 12) :
    tallyOn (xcell c (rcv i)) (launchCredit (Pipeline.owing O₀) 0 (xcell c (rcv i))) = (tallyAt (xcell c (rcv i)) () (N i.val) : CellTallies nD τ sig Unit) := by
  unfold tallyAt; refine congrArg _ (Finsupp.ext fun u => ?_); cases u
  rw [Pipeline.launchCredit_owing, Finsupp.single_eq_same, Finset.sum_congr rfl fun d _ => owed_rcv d c i, Finset.sum_ite_eq' Finset.univ (org c i) fun _ => N i.val,
    if_pos (Finset.mem_univ _)]

/-- The receive semaphores among all of a device's. -/
def rcvSems : Finset (SemLoc sig) := Finset.univ.map ⟨fun i : Fin 12 => (SemLoc.dma (xs (rcv i)) : SemLoc sig), fun i j h => by
  have h2 : rcv i = rcv j := xs_inj (SemLoc.dma.inj h)
  have : 12 + i.val = 12 + j.val := congrArg Fin.val h2
  exact Fin.ext (by omega)⟩
theorem creds (c : Dev nD) : (Pipeline.launchCred O₀ c : sProp 𝕄) ⊢ crd c := by
  unfold Pipeline.launchCred crd
  rw [bigSep_univ_at _ (SemLoc.reg barS), launch_bar]
  refine sep_mono_right ?_
  have hs : rcvSems ⊆ Finset.univ.erase (SemLoc.reg barS : SemLoc sig) := fun sm h => by
    obtain ⟨i, -, rfl⟩ := Finset.mem_map.mp h
    refine Finset.mem_erase.mpr ⟨fun h => ?_, Finset.mem_univ _⟩
    cases h
  refine (bigSep_subset hs).trans ?_
  unfold rcvSems
  rw [bigSep_map]
  exact bigSep_mono fun i _ => Entails.of_eq (congrArg (fun T : CellTallies nD τ sig Unit => (cred T : sProp 𝕄)) (launch_rcv c i))

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scr c from scopedRest0_eq c]
  unfold Φ₀
  iintro ⟨Hs, -, Hr⟩
  isplitl [Hs] <;> iassumption
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scr c from scopedRest0_eq c,
    ownSems0_eq, unscopedSems0_eq, b24]
  unfold Φ₁ zeros
  iintro ⟨⟨HzB, HzS, HzV⟩, Hr⟩
  isplitl [HzB]; · iexact HzB
  isplitl [HzS HzV]
  · isplitl [HzS] <;> iassumption
  iexact Hr
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution of the four devices' program ends, every
    final state has each window's array at the computed contents, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Gd m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (h : (cfg0.win w).isOut = false) :
    finalA m ρ c w = m ((cfg0.win w).arr.view.loc (c : Thread nD τ)) := (dats m ρ 0 c).arrAt_in w h _

end Cert.KernelIdeal.RingMM

end
-- ==== Proof.Frames.lean ====
/-
The frames: each program ends with its arguments unchanged and every semaphore at zero.
-/
module

public import proofs.«01_k».proof.Defs
public import proofs.«01_k».proof.Proof.Gen.Kernel
public import proofs.«01_k».proof.Proof.Gen.ReferenceIdeal.Frame
public import proofs.«01_k».proof.Proof.Launch

@[expose] public section

set_option maxRecDepth 16384

noncomputable section

namespace Cert.KernelIdeal.RingMM

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- For any float values: the four devices' program ends with every argument unchanged and every semaphore at zero. -/
theorem run_frame : θ_run defs (onTc (τ := τ) (main (F := F))) ⟨m, fun _ => 0, ρ⟩ fun r =>
    (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0 :=
  (θ_run defs _ _).mono (fun _ h => ⟨fun c =>
      ⟨(h.1 c 0).trans (finalA_in m ρ c 0 rfl), (h.1 c 1).trans (finalA_in m ρ c 1 rfl),
        (h.1 c 2).trans (finalA_in m ρ c 2 rfl), (h.1 c 3).trans (finalA_in m ρ c 3 rfl)⟩, h.2⟩)
    (run_main m ρ)

/-- The frame of the kernel's idealization. -/
theorem frame_kernelIdeal : Cert.quiescent_KernelIdeal := fun m ρ _ => run_frame m ρ

/-- The two programs' bodies are one text. -/
theorem body_same : @Cert.Kernel.cc0_body Bits _ Cert.Kernel.Gen.facts = @Cert.KernelIdeal.cc0_body Bits _ Cert.KernelIdeal.Gen.facts := rfl
theorem defs₀_same : Cert.Kernel.defs₀ (F := Bits) = Cert.KernelIdeal.defs₀ (F := Bits) := by
  refine congrArg Defs.onTc ?_
  funext l x
  match l, x with
  | 0, (t, s) => rfl
  | ⟨n + 1, h⟩, _ => exact absurd h (by omega)
theorem defs_same : Cert.Kernel.defs (F := Bits) = Cert.KernelIdeal.defs (F := Bits) :=
  congrArg (Pipeline.defs (Cert.KernelIdeal.pcfgs (F := Bits))) defs₀_same

/-- The frame of the kernel: the same run, of bit patterns. -/
theorem frame_kernel : Cert.quiescent_Kernel := fun m ρ _ => by
  rw [defs_same]
  exact run_frame (F := Bits) m ρ

/-- The frame of the reference. -/
theorem frame_referenceIdeal : Cert.quiescent_ReferenceIdeal := fun m ρ _ => Cert.ReferenceIdeal.Gen.frame m ρ

end Cert.KernelIdeal.RingMM

end
-- ==== Proof.Read.lean ====
/-
Reading and writing a rectangle of a whole buffer, by coordinates; what the windows hold at the start and the result's array at the end.
-/
module

public import proofs.«01_k».proof.Proof.Launch
public import Idealize.ShloMosaic.Lib.ValueIdxCore
public import Idealize.ShloMosaic.Lib.Pipeline.Value

@[expose] public section

set_option maxRecDepth 16384

noncomputable section

namespace Cert.KernelIdeal.RingMM

open Cert.KernelIdeal Cert.KernelIdeal.Gen
open Idealize.ShloMosaic
open Idealize.ShloMosaic.TcCoe
open Idealize.ShloMosaic.ValueIdx
open Idealize.SL.Sem

variable {F : FTy → Type} [FloatOps F]
variable (m : (ℓ : Loc nD τ sig) → Buf (Elt F) ℓ) (ρ : Dev nD → PrngReg)

/-! ## Rectangles -/

/-- An index of a unit-stride rectangle lands its offset further on. -/
theorem emb_at {s : Shape} (off size : Fin s.rank → ℕ) (inb : ∀ a, off a + size a ≤ s.size a) (j : (Rect.unit (s := s) off size inb).shape.Idx)
    (i : s.Idx) (h : ∀ a, (i a).val = off a + (j a).val) : (Rect.unit (s := s) off size inb).emb j = i := by
  funext a; apply Fin.ext
  show off a + 1 * (j a).val = (i a).val
  rw [h a, Nat.one_mul]

/-- A load of a rectangle of a whole buffer reads the buffer there. -/
theorem ld_at (b : Ref sig .tc) (off size : Fin b.ty.shape.rank → ℕ) (inb : ∀ a, off a + size a ≤ b.ty.shape.size a)
    (f : b.ty.Contents (Elt F)) (j : (Rect.unit (s := b.ty.shape) off size inb).shape.Idx) (i : b.ty.shape.Idx)
    (h : ∀ a, (i a).val = off a + (j a).val) :
    (Memref.whole b).view.readAt (Elt F) (Rect.unit (s := b.ty.shape) off size inb).toLoadRect f j = f i := by
  rw [← emb_at off size inb j i h]; rfl

/-- A store of a rectangle of a whole buffer, whose payload is a function's values there, leaves that function where the
    rectangle is or where the buffer held it already. -/
theorem st_agree (b : Ref sig .tc) (r : Rect b.ty.shape) (f g : b.ty.Contents (Elt F)) (w : r.shape.Idx → Elt F b.ty.elt)
    (hw : ∀ j, g (r.emb j) = w j) (i : b.ty.shape.Idx) (h : i ∈ r.set ∨ f i = g i) :
    ((Memref.whole b).access r).write (Elt F) f w Finset.univ i = g i := by
  have hs : ((Memref.whole b).access r).set = r.set := View.set_slice_whole b r
  by_cases hi : i ∈ ((Memref.whole b).access r).set
  · exact write_on ((Memref.whole b).access r) f g w hw i hi
  · exact (write_off ((Memref.whole b).access r) f w i hi).trans (h.resolve_left (by rw [hs] at hi; exact hi))

/-! ## The windows: each one's block is its whole array -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 1) = 0 := (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)

theorem xin_eq (c : Dev nD) : xin m c = m ((c : Thread nD τ).loc main_arg0) := by
  funext j
  refine congrArg (m ((c : Thread nD τ).loc main_arg0)) (funext fun a => Fin.ext ?_)
  obtain ⟨e0, e1⟩ := idx0 t₀
  match a with
  | ⟨0, _⟩ => show win0_0.index t₀ (0 : Fin 2) * 1024 + 1 * (j 0).val = (j 0).val; omega
  | ⟨1, _⟩ => show win0_0.index t₀ (1 : Fin 2) * 4096 + 1 * (j 1).val = (j 1).val; omega
theorem win_eq (c : Dev nD) : win m c = m ((c : Thread nD τ).loc main_arg1) := by
  funext j
  refine congrArg (m ((c : Thread nD τ).loc main_arg1)) (funext fun a => Fin.ext ?_)
  obtain ⟨e0, e1⟩ := idx1 t₀
  match a with
  | ⟨0, _⟩ => show win0_1.index t₀ (0 : Fin 2) * 4096 + 1 * (j 0).val = (j 0).val; omega
  | ⟨1, _⟩ => show win0_1.index t₀ (1 : Fin 2) * 512 + 1 * (j 1).val = (j 1).val; omega
theorem sxin_eq (c : Dev nD) : sxin m c = m ((c : Thread nD τ).loc main_arg2) := by
  funext j
  refine congrArg (m ((c : Thread nD τ).loc main_arg2)) (funext fun a => Fin.ext ?_)
  have e0 := idx2 t₀
  match a with
  | ⟨0, _⟩ => show win0_2.index t₀ (0 : Fin 1) * 1 + 1 * (j 0).val = (j 0).val; omega
theorem swin_eq (c : Dev nD) : swin m c = m ((c : Thread nD τ).loc main_arg3) := by
  funext j
  refine congrArg (m ((c : Thread nD τ).loc main_arg3)) (funext fun a => Fin.ext ?_)
  have e0 := idx3 t₀
  match a with
  | ⟨0, _⟩ => show win0_3.index t₀ (0 : Fin 1) * 1 + 1 * (j 0).val = (j 0).val; omega

/-- The rows that device `c` multiplies are its first argument; -/
theorem X_eq (c : Dev nD) : X m c = m ((c : Thread nD τ).loc main_arg0) := by
  unfold X k0_pay3 k0_pay2
  dsimp only
  rw [shapeCast_self, shapeCast_self, xin_eq]
/-- the columns that it sends round are its second; -/
theorem W_eq (c : Dev nD) : W m c = m ((c : Thread nD τ).loc main_arg1) := by
  unfold W k0_pay1
  dsimp only
  rw [shapeCast_self, shapeCast_self, win_eq]
/-- its two scales are its third and fourth. -/
theorem sx_eq (c : Dev nD) : sx m c = m ((c : Thread nD τ).loc main_arg2) (ix1 (0 : Fin 1)) := by
  unfold sx
  rw [sxin_eq]
  exact congrArg (m ((c : Thread nD τ).loc main_arg2)) (funext fun a => Fin.ext (by
    match a with
    | ⟨0, _⟩ => rfl))
theorem sw_eq (c : Dev nD) : sw m c = m ((c : Thread nD τ).loc main_arg3) (ix1 (0 : Fin 1)) := by
  unfold sw
  rw [swin_eq]
  exact congrArg (m ((c : Thread nD τ).loc main_arg3)) (funext fun a => Fin.ext (by
    match a with
    | ⟨0, _⟩ => rfl))

/-! ## The result's array after the run -/

theorem emb4 (t : Fin cfg0.N) (j : S4096x512.Idx) : ((cfg0.win 4).blk t).view.emb j = j := by
  obtain ⟨e0, e1⟩ := idx4 t
  funext a; apply Fin.ext
  match a with
  | ⟨0, _⟩ => show win0_4.index t (0 : Fin 2) * 4096 + 1 * (j 0).val = (j 0).val; omega
  | ⟨1, _⟩ => show win0_4.index t (1 : Fin 2) * 512 + 1 * (j 1).val = (j 1).val; omega

theorem cut4 (v : Vec F S4096x512 .f32) : (cfg0.win 4).cut (grid0.coords t₀) v = ((cfg0.win 4).blk t₀).view.read (Elt F) v := by
  funext j
  show v j = v (((cfg0.win 4).blk t₀).view.emb j)
  rw [emb4]
theorem flushed4 (c : Dev nD) (t : Fin cfg0.N) :
    (dats m ρ 0 c).flushed 4 t = ((cfg0.win 4).blk t).view.read (Elt F) (outF m c) := by
  rw [fin_N t]
  exact (congrArg ((cfg0.win 4).cut (grid0.coords t₀)) (after_4 m ρ c)).trans (cut4 (outF m c))

/-- Device `c`'s result array ends holding its computed result. -/
theorem finalA_out (c : Dev nD) : finalA m ρ c 4 = outF m c :=
  (dats m ρ 0 c).arrAt_eq_of_cover 4 (outF m c) (fun t _ => flushed4 m ρ c t) fun i =>
    ⟨t₀, by decide +kernel, by have h := ((cfg0.win 4).blk t₀).view.emb_mem_set i; rwa [emb4] at h⟩

end Cert.KernelIdeal.RingMM

end
-- ==== Proof.Product.lean ====
/-
The products over the extended reals: a block of rows times a block of columns, as one sum and as the sum of its four quarters.
-/
module

public import proofs.«01_k».proof.Proof.Read
public import Idealize.ShloMosaic.Lib.ValueIdx
public import Idealize.ShloMosaic.Lib.MatmulPlain

@[expose] public section

set_option maxRecDepth 16384

noncomputable section

namespace Cert.KernelIdeal.RingMM

open Cert.KernelIdeal Cert.KernelIdeal.Gen
open Idealize.ShloMosaic
open Idealize.ShloMosaic.TcCoe
open Idealize.ShloMosaic.ValueIdx
open Idealize.SL.Sem
open scoped BigOperators

/-- Row `p` of a block of rows times column `q` of a block of columns. -/
def prod (x : Vec Ideal S1024x4096 .fp8e5m2) (w : Vec Ideal S4096x512 .fp8e5m2) (p : Fin 1024) (q : Fin 512) : EReal :=
  ∑ k : Fin 4096, (x (ix2 p k) : EReal) * (w (ix2 k q) : EReal)

/-- Its part over the 1024 positions from `o` on. -/
def part (x : Vec Ideal S1024x4096 .fp8e5m2) (w : Vec Ideal S4096x512 .fp8e5m2) (o : ℕ) (h : o + 1024 ≤ 4096) (p : Fin 1024) (q : Fin 512) : EReal :=
  ∑ k : Fin 1024, (x (ix2 p ⟨o + k.val, by have := k.isLt; omega⟩) : EReal) * (w (ix2 ⟨o + k.val, by have := k.isLt; omega⟩ q) : EReal)

/-- A sum over 4096 positions is the sum of those over its four quarters. -/
theorem sum_quarters (f : Fin 4096 → EReal) :
    ∑ k, f k = ((∑ k : Fin 1024, f ⟨0 + k.val, by have := k.isLt; omega⟩) + ∑ k : Fin 1024, f ⟨2048 + k.val, by have := k.isLt; omega⟩)
      + (∑ k : Fin 1024, f ⟨1024 + k.val, by have := k.isLt; omega⟩) + ∑ k : Fin 1024, f ⟨3072 + k.val, by have := k.isLt; omega⟩ := by
  have h1 := Fin.sum_univ_add (a := 2048) (b := 2048) f
  have h2 := Fin.sum_univ_add (a := 1024) (b := 1024) fun i => f (Fin.castAdd 2048 i)
  have h3 := Fin.sum_univ_add (a := 1024) (b := 1024) fun i => f (Fin.natAdd 2048 i)
  rw [show ∑ k, f k = ∑ k : Fin (2048 + 2048), f k from rfl, h1, h2, h3]
  have e0 : ∀ k : Fin 1024, (⟨0 + k.val, by have := k.isLt; omega⟩ : Fin 4096) = Fin.castAdd 2048 (Fin.castAdd 1024 k) := fun k => Fin.ext (Nat.zero_add _)
  have e3 : ∀ k : Fin 1024, (⟨3072 + k.val, by have := k.isLt; omega⟩ : Fin 4096) = Fin.natAdd 2048 (Fin.natAdd 1024 k) :=
    fun k => Fin.ext (by show 3072 + k.val = 2048 + (1024 + k.val); omega)
  rw [Finset.sum_congr rfl fun k _ => congrArg f (e0 k), Finset.sum_congr (s₁ := Finset.univ) rfl fun k _ => congrArg f (e3 k)]
  rw [← add_assoc, add_right_comm _ (∑ k : Fin 1024, f ⟨2048 + k.val, _⟩)]
  rfl

theorem prod_parts (x : Vec Ideal S1024x4096 .fp8e5m2) (w : Vec Ideal S4096x512 .fp8e5m2) (p : Fin 1024) (q : Fin 512) :
    part x w 0 (by decide) p q + part x w 2048 (by decide) p q + part x w 1024 (by decide) p q + part x w 3072 (by decide) p q = prod x w p q :=
  (sum_quarters fun k => (x (ix2 p k) : EReal) * (w (ix2 k q) : EReal)).symm

/-! ## What each stored payload is, at an index -/

/-- A product into a zero accumulator, at an index. -/
theorem mm_at {A K B : ℕ} {φ₁ φ₂ : FTy} (d : DotDims ⟨2, ![A, K]⟩ ⟨2, ![K, B]⟩ ⟨2, ![A, B]⟩) (hd : d = DotDims.plain A K B)
    (x : FVec Ideal ⟨2, ![A, K]⟩ φ₁) (w : FVec Ideal ⟨2, ![K, B]⟩ φ₂) (p : Fin A) (q : Fin B) :
    matmul d none x w (constant ⟨2, ![A, B]⟩ .f32 0x00000000#32) (ix2 p q) = ∑ k : Fin K, (x (ix2 p k) : EReal) * (w (ix2 k q) : EReal) := by
  subst hd
  refine (Ideal.matmul_plain_apply none x w _ p q).trans ?_
  show Ideal.ofBits .f32 0x00000000#32 + _ = _
  rw [Ideal.ofBits_zero_f32, zero_add]

theorem pay5_at (a b : Elt Ideal .f32) (x : Vec Ideal S1024x4096 .fp8e5m2) (w : Vec Ideal S4096x512 .fp8e5m2) (p : Fin 1024) (q : Fin 512) :
    k0_pay5 a b x w (ix2 p q) = prod x w p q * k0_pay4 a b :=
  congrArg (· * (k0_pay4 a b : EReal)) (mm_at _ rfl x w p q)
theorem pay6_at (s : Ideal .f32) (x : Vec Ideal S1024x4096 .fp8e5m2) (w : Vec Ideal S4096x512 .fp8e5m2) (p : Fin 1024) (q : Fin 512) :
    k0_pay6 s x w (ix2 p q) = prod x w p q * s := by
  unfold k0_pay6; rw [shapeCast_self]
  exact congrArg (· * (s : EReal)) (mm_at _ rfl x w p q)
theorem pay7_at (s : Ideal .f32) (x : Vec Ideal S1024x4096 .fp8e5m2) (w : Vec Ideal S4096x512 .fp8e5m2) (p : Fin 1024) (q : Fin 512) :
    k0_pay7 s x w (ix2 p q) = prod x w p q * s := by
  unfold k0_pay7; rw [shapeCast_self]
  exact congrArg (· * (s : EReal)) (mm_at _ rfl x w p q)
theorem pay8_at (a : Vec Ideal S1024x1024 .fp8e5m2) (b : Vec Ideal S1024x512 .fp8e5m2) (c : Vec Ideal S1024x1024 .fp8e5m2) (d : Vec Ideal S1024x512 .fp8e5m2)
    (p : Fin 1024) (q : Fin 512) : k0_pay8 a b c d (ix2 p q)
      = (∑ k : Fin 1024, (a (ix2 p k) : EReal) * (b (ix2 k q) : EReal)) + ∑ k : Fin 1024, (c (ix2 p k) : EReal) * (d (ix2 k q) : EReal) := by
  unfold k0_pay8; rw [shapeCast_self]
  exact congrArg₂ (fun u v : EReal => u + v) (mm_at _ rfl a b p q) (mm_at _ rfl c d p q)
theorem pay10_at (v : Vec Ideal S512x512 .f32) (a : Vec Ideal S512x1024 .fp8e5m2) (b : Vec Ideal S1024x512 .fp8e5m2) (c : Vec Ideal S512x1024 .fp8e5m2)
    (d : Vec Ideal S1024x512 .fp8e5m2) (p : Fin 512) (q : Fin 512) : k0_pay10 v a b c d (ix2 p q)
      = ((v (ix2 p q) : EReal) + ∑ k : Fin 1024, (a (ix2 p k) : EReal) * (b (ix2 k q) : EReal)) + ∑ k : Fin 1024, (c (ix2 p k) : EReal) * (d (ix2 k q) : EReal) :=
  congrArg₂ (fun u v : EReal => u + v) (congrArg (fun u : EReal => (v (ix2 p q) : EReal) + u) (mm_at _ rfl a b p q)) (mm_at _ rfl c d p q)
theorem pay11_at (s : Ideal .f32) (v : Vec Ideal S512x512 .f32) (p q : Fin 512) : k0_pay11 s v (ix2 p q) = (v (ix2 p q) : EReal) * (s : EReal) := by
  unfold k0_pay11; rw [shapeCast_self]; rfl
theorem pay9_eq (s : Ideal .f32) (v : Vec Ideal S512x512 .f32) (a : Vec Ideal S512x1024 .fp8e5m2) (b : Vec Ideal S1024x512 .fp8e5m2)
    (c : Vec Ideal S512x1024 .fp8e5m2) (d : Vec Ideal S1024x512 .fp8e5m2) : k0_pay9 s v a b c d = k0_pay11 s (k0_pay10 v a b c d) := rfl

end Cert.KernelIdeal.RingMM

end
-- ==== Proof.Value.lean ====
/-
What device `c`'s result holds, over the extended reals: each device's rows of `x` times `c`'s columns of `w`, scaled.
-/
module

public import proofs.«01_k».proof.Proof.Product

@[expose] public section

set_option maxRecDepth 16384

noncomputable section

namespace Cert.KernelIdeal.RingMM

open Cert.KernelIdeal Cert.KernelIdeal.Gen
open Idealize.ShloMosaic
open Idealize.ShloMosaic.TcCoe
open Idealize.ShloMosaic.ValueIdx
open Idealize.SL.Sem
open scoped BigOperators

variable (m : (ℓ : Loc nD τ sig) → Buf (Elt Ideal) ℓ)

/-! ## The block for the device opposite: its four quarters make the whole product -/

/-- The two quarters taken first, at an index. -/
theorem accF_at (c : Dev nD) (p : Fin 1024) (q : Fin 512) :
    accF m c (ix2 p q) = part (X m c) (W m (opp c)) 0 (by decide) p q + part (X m c) (W m (opp c)) 2048 (by decide) p q := by
  unfold accF
  rw [pay8_at]
  refine congrArg₂ (fun u v : EReal => u + v) (Finset.sum_congr rfl fun k _ => ?_) (Finset.sum_congr rfl fun k _ => ?_)
  · exact congrArg₂ (fun u v : EReal => u * v)
      (ld_at x8 ![0, 0] S1024x1024.size _ (X m c) (ix2 p k) _ fun a => by match a with | ⟨0, _⟩ => exact (Nat.zero_add _).symm | ⟨1, _⟩ => rfl)
      (ld_at wo ![0, 0] S1024x512.size _ (W m (opp c)) (ix2 k q) _ fun a => by match a with | ⟨0, _⟩ => rfl | ⟨1, _⟩ => exact (Nat.zero_add _).symm)
  · exact congrArg₂ (fun u v : EReal => u * v)
      (ld_at x8 ![0, 2048] S1024x1024.size _ (X m c) (ix2 p k) _ fun a => by match a with | ⟨0, _⟩ => exact (Nat.zero_add _).symm | ⟨1, _⟩ => rfl)
      (ld_at wo ![2048, 0] S1024x512.size _ (W m (opp c)) (ix2 k q) _ fun a => by match a with | ⟨0, _⟩ => rfl | ⟨1, _⟩ => exact (Nat.zero_add _).symm)

/-- Either half's rows, from row `o`: the two quarters read back and the other two added are the whole product. -/
theorem half_at (c : Dev nD) (o : ℕ) (ho : o + 512 ≤ 1024)
    (ia : ∀ a, (![o, 0] : Fin 2 → ℕ) a + S512x512.size a ≤ S1024x512.size a)
    (i1 : ∀ a, (![o, 1024] : Fin 2 → ℕ) a + S512x1024.size a ≤ S1024x4096.size a)
    (i3 : ∀ a, (![o, 3072] : Fin 2 → ℕ) a + S512x1024.size a ≤ S1024x4096.size a) (p q : Fin 512) :
    k0_pay10 (ldAcc (Rect.unit (s := S1024x512) ![o, 0] S512x512.size ia) (accF m c))
      (ldX (Rect.unit (s := S1024x4096) ![o, 1024] S512x1024.size i1) (X m c)) (ldWo rQ1 (W m (opp c)))
      (ldX (Rect.unit (s := S1024x4096) ![o, 3072] S512x1024.size i3) (X m c)) (ldWo rQ3 (W m (opp c))) (ix2 p q)
      = prod (X m c) (W m (opp c)) ⟨o + p.val, by have := p.isLt; omega⟩ q := by
  rw [pay10_at, ← prod_parts, ← accF_at]
  refine congrArg₂ (fun u v : EReal => u + v) (congrArg₂ (fun u v : EReal => u + v) ?_ (Finset.sum_congr rfl fun k _ => ?_)) (Finset.sum_congr rfl fun k _ => ?_)
  · exact ld_at acc ![o, 0] S512x512.size _ (accF m c) (ix2 p q) _ fun a => by match a with | ⟨0, _⟩ => rfl | ⟨1, _⟩ => exact (Nat.zero_add _).symm
  · exact congrArg₂ (fun u v : EReal => u * v)
      (ld_at x8 ![o, 1024] S512x1024.size _ (X m c) (ix2 p k) _ fun a => by match a with | ⟨0, _⟩ => rfl | ⟨1, _⟩ => rfl)
      (ld_at wo ![1024, 0] S1024x512.size _ (W m (opp c)) (ix2 k q) _ fun a => by match a with | ⟨0, _⟩ => rfl | ⟨1, _⟩ => exact (Nat.zero_add _).symm)
  · exact congrArg₂ (fun u v : EReal => u * v)
      (ld_at x8 ![o, 3072] S512x1024.size _ (X m c) (ix2 p k) _ fun a => by match a with | ⟨0, _⟩ => rfl | ⟨1, _⟩ => rfl)
      (ld_at wo ![3072, 0] S1024x512.size _ (W m (opp c)) (ix2 k q) _ fun a => by match a with | ⟨0, _⟩ => rfl | ⟨1, _⟩ => exact (Nat.zero_add _).symm)

theorem boLo_at (c : Dev nD) (p q : Fin 512) :
    boLo m c (ix2 p q) = prod (X m c) (W m (opp c)) ⟨0 + p.val, by have := p.isLt; omega⟩ q * sc m c := by
  unfold boLo
  rw [pay9_eq, pay11_at]
  exact congrArg (· * (sc m c : EReal)) (half_at m c 0 (by decide) _ _ _ p q)
theorem boHi_at (c : Dev nD) (p q : Fin 512) :
    boHi m c (ix2 p q) = prod (X m c) (W m (opp c)) ⟨512 + p.val, by have := p.isLt; omega⟩ q * sc m c := by
  unfold boHi
  rw [pay11_at]
  exact congrArg (· * (sc m c : EReal)) (half_at m c 512 (by decide) _ _ _ p q)

/-- The block device `c` computes for the device opposite. -/
def boT (c : Dev nD) : Vec Ideal S1024x512 .bf16 := fun i => prod (X m c) (W m (opp c)) (i 0) (i 1) * sc m c

theorem boT_at (c : Dev nD) (p : Fin 1024) (q : Fin 512) (i : S1024x512.Idx) (h0 : (i 0).val = p.val) (h1 : (i 1).val = q.val) :
    boT m c i = prod (X m c) (W m (opp c)) p q * sc m c := by
  obtain rfl : i 0 = p := Fin.ext h0
  obtain rfl : i 1 = q := Fin.ext h1
  rfl
theorem agreeT (c : Dev nD) (j : rT.shape.Idx) : boT m c (rT.emb j) = boLo m c j := by
  obtain ⟨p, q, rfl⟩ : ∃ p q : Fin 512, j = ix2 p q := ⟨_, _, eq_ix2 j⟩
  rw [boLo_at]
  refine boT_at m c _ q _ ?_ ?_
  · show 0 + 1 * p.val = 0 + p.val; omega
  · show 0 + 1 * q.val = q.val; omega
theorem agreeB (c : Dev nD) (j : rB.shape.Idx) : boT m c (rB.emb j) = boHi m c j := by
  obtain ⟨p, q, rfl⟩ : ∃ p q : Fin 512, j = ix2 p q := ⟨_, _, eq_ix2 j⟩
  rw [boHi_at]
  refine boT_at m c _ q _ ?_ ?_
  · show 512 + 1 * p.val = 512 + p.val; omega
  · show 0 + 1 * q.val = q.val; omega
theorem mem_halves (i : S1024x512.Idx) : i ∈ rT.set ∨ i ∈ rB.set := by
  have h : (i 0).val < 1024 := (i 0).isLt
  rw [rows1 0 512, rows1 512 512, mem_R1, mem_R1]
  omega
theorem boF_at (c : Dev nD) : boF m c = boT m c := by
  funext i
  unfold boF
  rcases mem_halves i with h | h
  · exact st_agree bo rB _ (boT m c) _ (agreeB m c) i (.inr (st_agree bo rT _ (boT m c) _ (agreeT m c) i (.inl h)))
  · exact st_agree bo rB _ (boT m c) _ (agreeB m c) i (.inl h)

/-! ## The result -/

/-- The device whose rows row `i` of the result is. -/
def rowDev (i : Fin 4096) : Dev nD := ⟨i.val / 1024, by have := i.isLt; show i.val / 1024 < 4; omega⟩
def rowIn (i : Fin 4096) : Fin 1024 := ⟨i.val % 1024, Nat.mod_lt _ (by decide)⟩

/-- What device `c`'s result holds: at row `p` of device `d`'s block, `d`'s row `p` of `x` times `c`'s columns, times `d`'s scale. -/
def outT (c : Dev nD) : Vec Ideal S4096x512 .f32 := fun i =>
  prod (X m (rowDev (i 0))) (W m c) (rowIn (i 0)) (i 1) * sc m (rowDev (i 0))

theorem outT_at (c d : Dev nD) (p : Fin 1024) (q : Fin 512) (i : S4096x512.Idx) (h0 : (i 0).val = 1024 * d.val + p.val) (h1 : (i 1).val = q.val) :
    outT m c i = prod (X m d) (W m c) p q * sc m d := by
  have hp := p.isLt
  have ed : rowDev (i 0) = d := Fin.ext (by show (i 0).val / 1024 = d.val; omega)
  have ep : rowIn (i 0) = p := Fin.ext (by show (i 0).val % 1024 = p.val; omega)
  have eq : i 1 = q := Fin.ext h1
  unfold outT
  rw [ed, ep, eq]

/-- A store of rows of device `d`'s block agrees with the result if its payload does, row by row. -/
theorem rows_agree (c d : Dev nD) (off : Fin 2 → ℕ) (n o : ℕ) (hn : o + n ≤ 1024) (inb : ∀ a, off a + (![n, 512] : Fin 2 → ℕ) a ≤ S4096x512.size a)
    (hoff : off = ![1024 * d.val + o, 0]) (w : Vec Ideal (⟨2, ![n, 512]⟩ : Shape) .f32)
    (hw : ∀ (p : Fin n) (q : Fin 512), w (ix2 p q) = prod (X m d) (W m c) ⟨o + p.val, by have := p.isLt; omega⟩ q * sc m d)
    (j : (Rect.unit (s := S4096x512) off ![n, 512] inb).shape.Idx) :
    outT m c ((Rect.unit (s := S4096x512) off ![n, 512] inb).emb j) = w j := by
  subst hoff
  obtain ⟨p, q, rfl⟩ : ∃ (p : Fin n) (q : Fin 512), j = ix2 p q := ⟨_, _, eq_ix2 j⟩
  rw [hw]
  refine outT_at m c d ⟨o + p.val, _⟩ q _ ?_ ?_
  · show 1024 * d.val + o + 1 * p.val = 1024 * d.val + (o + p.val); omega
  · show 0 + 1 * q.val = q.val; omega

theorem agree1 (c : Dev nD) (j : (rO1 c).shape.Idx) : outT m c ((rO1 c).emb j) = k0_pay5 (sx m c) (sw m c) (X m c) (W m c) j :=
  rows_agree m c c (k0_off1 c) 1024 0 (by decide) _ (k0_off1_eq c) _ (fun p q => (pay5_at _ _ _ _ p q).trans (by
    rw [show (⟨0 + p.val, by have := p.isLt; omega⟩ : Fin 1024) = p from Fin.ext (Nat.zero_add _)]; rfl)) j
theorem agree2 (c : Dev nD) (j : (rO2 c).shape.Idx) : outT m c ((rO2 c).emb j) = k0_pay12 (brF m (left c)) j :=
  rows_agree m c (left c) (k0_off2 c) 1024 0 (by decide) _ (k0_off2_eq c) _ (fun p q => (pay7_at _ _ _ p q).trans (by
    rw [show (⟨0 + p.val, by have := p.isLt; omega⟩ : Fin 1024) = p from Fin.ext (Nat.zero_add _), right_left])) j
theorem agree3 (c : Dev nD) (j : (rO3 c).shape.Idx) : outT m c ((rO3 c).emb j) = k0_pay13 (blF m (right c)) j :=
  rows_agree m c (right c) (k0_off3 c) 1024 0 (by decide) _ (k0_off3_eq c) _ (fun p q => (pay6_at _ _ _ p q).trans (by
    rw [show (⟨0 + p.val, by have := p.isLt; omega⟩ : Fin 1024) = p from Fin.ext (Nat.zero_add _), left_right])) j
theorem agree4 (c : Dev nD) (j : (rO4 c).shape.Idx) : outT m c ((rO4 c).emb j) = k0_pay14 (ldRbo rT (boF m (opp c))) j :=
  rows_agree m c (opp c) (k0_off4 c 0#32) 512 0 (by decide) _ (k0_off4_eq c 0) _ (fun p q =>
    (ld_at rbo ![0, 0] S512x512.size _ (boF m (opp c)) (ix2 p q) (ix2 ⟨0 + p.val, by have := p.isLt; omega⟩ q) fun a => by
      match a with | ⟨0, _⟩ => rfl | ⟨1, _⟩ => exact (Nat.zero_add _).symm).trans (by rw [boF_at]; unfold boT; rw [opp_opp])) j
theorem agree5 (c : Dev nD) (j : (rO5 c).shape.Idx) : outT m c ((rO5 c).emb j) = k0_pay15 (ldRbo rB (boF m (opp c))) j :=
  rows_agree m c (opp c) (k0_off4 c 512#32) 512 512 (by decide) _ (k0_off4_eq c 1) _ (fun p q =>
    (ld_at rbo ![512, 0] S512x512.size _ (boF m (opp c)) (ix2 p q) (ix2 ⟨512 + p.val, by have := p.isLt; omega⟩ q) fun a => by
      match a with | ⟨0, _⟩ => rfl | ⟨1, _⟩ => exact (Nat.zero_add _).symm).trans (by rw [boF_at]; unfold boT; rw [opp_opp])) j

/-- Device `c`'s result is those products. -/
theorem outF_eq (c : Dev nD) : outF m c = outT m c := by
  funext i
  unfold outF
  have s1 := fun h => st_agree bOut (rO1 c) (fun _ => sc m c) (outT m c) _ (agree1 m c) i h
  have s2 := fun h => st_agree bOut (rO2 c) (out1 m c fun _ => sc m c) (outT m c) _ (agree2 m c) i h
  have s3 := fun h => st_agree bOut (rO3 c) (out2 m c fun _ => sc m c) (outT m c) _ (agree3 m c) i h
  have s4 := fun h => st_agree bOut (rO4 c) (out3 m c fun _ => sc m c) (outT m c) _ (agree4 m c) i h
  have s5 := fun h => st_agree bOut (rO5 c) (out4 m c fun _ => sc m c) (outT m c) _ (agree5 m c) i h
  rcases rows_cover c i with h | h | h | h | h
  · exact s5 (.inr (s4 (.inr (s3 (.inr (s2 (.inr (s1 (.inl h)))))))))
  · exact s5 (.inr (s4 (.inr (s3 (.inr (s2 (.inl h)))))))
  · exact s5 (.inr (s4 (.inr (s3 (.inl h)))))
  · exact s5 (.inr (s4 (.inl h)))
  · exact s5 (.inl h)

end Cert.KernelIdeal.RingMM

end
-- ==== Proof.Algebraic.lean ====
/-
The four devices' results are the column blocks of the reference's result, over the extended reals.
-/
module

public import proofs.«01_k».proof.Proof.Frames
public import proofs.«01_k».proof.Proof.Value
public import proofs.«01_k».proof.Proof.Gen.ReferenceIdeal.Value
public import Idealize.ShloMosaic.Lib.Layout

@[expose] public section

set_option maxRecDepth 16384

noncomputable section

namespace Cert.KernelIdeal.RingMM

open Cert.KernelIdeal Cert.KernelIdeal.Gen
open Idealize.ShloMosaic
open Idealize.ShloMosaic.TcCoe
open Idealize.ShloMosaic.ValueIdx
open Idealize.SL.Sem
open scoped BigOperators

/-- The reference's result at row `p` and column `q`: their product, times both scales. -/
theorem ref_at (a0 : Vec Ideal Cert.ReferenceIdeal.S4096x4096 .fp8e5m2) (a1 : Vec Ideal Cert.ReferenceIdeal.S4096x2048 .fp8e5m2)
    (a2 a3 : Vec Ideal Cert.ReferenceIdeal.S1 .f32) (p : Fin 4096) (q : Fin 2048) :
    Cert.ReferenceIdeal.Value.G4 a0 a1 a2 a3 (ix2 p q)
      = (∑ k : Fin 4096, (a0 (ix2 p k) : EReal) * (a1 (ix2 k q) : EReal)) * ((a2 (ix1 (0 : Fin 1)) : EReal) * (a3 (ix1 (0 : Fin 1)) : EReal)) := by
  have hs : ∀ i : Cert.ReferenceIdeal.S1.Idx, i = ix1 (0 : Fin 1) := fun i => (eq_ix1 i).trans (congrArg ix1 (Subsingleton.elim (α := Fin 1) _ _))
  refine congrArg₂ (fun u v : EReal => u * v) (mm_at _ rfl _ _ p q) ?_
  exact congrArg₂ (fun i j : Cert.ReferenceIdeal.S1.Idx => (a2 i : EReal) * (a3 j : EReal)) (hs _) (hs _)

/-- If every device's rows of `x` and columns of `w` are its blocks of the whole `x` and `w`, and its scales are the whole's, then its
    result is its block of columns of the reference's. -/
theorem outT_block (m : (ℓ : Loc nD τ sig) → Buf (Elt Ideal) ℓ) (a0 : Vec Ideal Cert.ReferenceIdeal.S4096x4096 .fp8e5m2)
    (a1 : Vec Ideal Cert.ReferenceIdeal.S4096x2048 .fp8e5m2) (a2 a3 : Vec Ideal Cert.ReferenceIdeal.S1 .f32)
    (h0 : ∀ c : Dev nD, X m c = Layout.block ⟨2, ![1024, 4096]⟩ ⟨2, ![4096, 4096]⟩ 0 4 c a0)
    (h1 : ∀ c : Dev nD, W m c = Layout.block ⟨2, ![4096, 512]⟩ ⟨2, ![4096, 2048]⟩ 1 4 c a1)
    (h2 : ∀ c : Dev nD, sx m c = a2 (ix1 (0 : Fin 1))) (h3 : ∀ c : Dev nD, sw m c = a3 (ix1 (0 : Fin 1))) (c : Dev nD) :
    outT m c = Layout.block ⟨2, ![4096, 512]⟩ ⟨2, ![4096, 2048]⟩ 1 4 c (Cert.ReferenceIdeal.Value.G4 a0 a1 a2 a3) := by
  funext i
  obtain ⟨p, q, rfl⟩ : ∃ (p : Fin 4096) (q : Fin 512), i = ix2 p q := ⟨_, _, eq_ix2 i⟩
  have hp := p.isLt
  have hq := q.isLt
  have hc : c.val < 4 := c.isLt
  have key : outT m c (ix2 p q) = Cert.ReferenceIdeal.Value.G4 a0 a1 a2 a3 (ix2 p (⟨c.val * 512 + q.val, by omega⟩ : Fin 2048)) := by
    rw [ref_at]
    refine congrArg₂ (fun u v : EReal => u * v) (Finset.sum_congr rfl fun k _ => congrArg₂ (fun u v : EReal => u * v) ?_ ?_) ?_
    · show X m (rowDev p) (ix2 (rowIn p) k) = a0 (ix2 p k)
      rw [h0]
      refine congrArg a0 (funext fun a => Fin.ext ?_)
      match a with
      | ⟨0, _⟩ => show p.val / 1024 * 1024 + p.val % 1024 = p.val; omega
      | ⟨1, _⟩ => rfl
    · rw [h1]
      refine congrArg a1 (funext fun a => Fin.ext ?_)
      match a with
      | ⟨0, _⟩ => rfl
      | ⟨1, _⟩ => rfl
    · exact congrArg₂ (fun u v : EReal => u * v) (h2 _) (h3 _)
  refine key.trans (congrArg (Cert.ReferenceIdeal.Value.G4 a0 a1 a2 a3) (funext fun a => Fin.ext ?_))
  match a with
  | ⟨0, _⟩ => rfl
  | ⟨1, _⟩ => rfl

/-- The kernel on four devices computes the reference's function over the extended reals: device `c` ends with block `c` of its columns. -/
theorem algebraic : Cert.algebraic_KernelIdeal_ReferenceIdeal := fun m g m' g' _ h =>
  ⟨_, (θ_run defs _ _).mono (fun _ r c =>
      ⟨(r.1 c 4).trans ((finalA_out m g c).trans ((outF_eq m c).trans (outT_block m _ _ _ _
          (fun d => (X_eq m d).trans (h d).1) (fun d => (W_eq m d).trans (h d).2.1)
          (fun d => (sx_eq m d).trans (congrFun (h d).2.2.1 _)) (fun d => (sw_eq m d).trans (congrFun (h d).2.2.2 _)) c))),
        (r.1 c 0).trans (finalA_in m g c 0 rfl), (r.1 c 1).trans (finalA_in m g c 1 rfl),
        (r.1 c 2).trans (finalA_in m g c 2 rfl), (r.1 c 3).trans (finalA_in m g c 3 rfl)⟩) (run_main m g),
    (θ_run Cert.ReferenceIdeal.defs _ _).mono (fun _ r => r 0) (Cert.ReferenceIdeal.Value.run m' g')⟩

end Cert.KernelIdeal.RingMM

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All five claims: the three frames, the idealization and the value. -/
theorem claim : Cert.Claim := ⟨Cert.Kernel.Gen.facts, Cert.KernelIdeal.Gen.facts, Cert.ReferenceIdeal.Gen.facts,
  Cert.KernelIdeal.RingMM.frame_kernel, Cert.KernelIdeal.RingMM.frame_kernelIdeal, Cert.KernelIdeal.RingMM.frame_referenceIdeal, trivial,
  Cert.KernelIdeal.RingMM.algebraic⟩

end Cert.Proof

end
